-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_is_normal [hPre_x_is_normal : Cert.Pre_x_is_normal.Facts] (m : (ℓ : Loc Cert.KernelIdeal.nD Cert.KernelIdeal.τ Cert.KernelIdeal.sig) → Buf (Elt Ideal) ℓ) : Prop :=
  ∀ c : Dev Cert.KernelIdeal.nD,
    (Cert.Pre_x_is_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_is_normal [hPre_x_is_normal : Cert.Pre_x_is_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_is_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_x_is_normal [hKernelIdeal : Cert.KernelIdeal.Facts] [hPre_x_is_normal : Cert.Pre_x_is_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_is_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_x_is_normal [hReferenceIdeal : Cert.ReferenceIdeal.Facts] [hPre_x_is_normal : Cert.Pre_x_is_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_is_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_x_is_normal [hKernelIdeal : Cert.KernelIdeal.Facts] [hReferenceIdeal : Cert.ReferenceIdeal.Facts] [hPre_x_is_normal : Cert.Pre_x_is_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_is_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_x_is_normal : Cert.Pre_x_is_normal.Facts),
    quiescent_Kernel (hKernel := hKernel)
    ∧ quiescent_KernelIdeal (hKernelIdeal := hKernelIdeal)
    ∧ quiescent_KernelIdeal_pre_x_is_normal (hKernelIdeal := hKernelIdeal) (hPre_x_is_normal := hPre_x_is_normal)
    ∧ quiescent_ReferenceIdeal (hReferenceIdeal := hReferenceIdeal)
    ∧ quiescent_ReferenceIdeal_pre_x_is_normal (hReferenceIdeal := hReferenceIdeal) (hPre_x_is_normal := hPre_x_is_normal)
    ∧ preserves_Kernel_KernelIdeal
    ∧ algebraic_KernelIdeal_ReferenceIdeal_pre_x_is_normal (hKernelIdeal := hKernelIdeal) (hReferenceIdeal := hReferenceIdeal) (hPre_x_is_normal := hPre_x_is_normal)
-- ==== Pre_x_is_normal.lean ====
abbrev S4x3072x4096 : Shape := ⟨3, ![4, 3072, 4096]⟩
abbrev S4608x4096 : Shape := ⟨2, ![4608, 4096]⟩
abbrev S36x32 : Shape := ⟨2, ![36, 32]⟩
abbrev S4608 : Shape := ⟨1, ![4608]⟩
abbrev S4x3072x32x128 : Shape := ⟨4, ![4, 3072, 32, 128]⟩
abbrev S_ : Shape := ⟨0, ![]⟩
abbrev S4x3072x32 : Shape := ⟨3, ![4, 3072, 32]⟩

class Facts : Prop where
  bitsLt_bf16_f32 : FTy.bits .bf16 < FTy.bits .f32
  shapeCasts_S4x3072x4096_S4x3072x32x128 : S4x3072x4096.ShapeCasts S4x3072x32x128
  reducesTo_S4x3072x32x128_S4x3072x32_d3 : S4x3072x32x128.ReducesTo [3] S4x3072x32
  h_S_ : 0 < S_.numel
  bcast_S_S4x3072x32 : S_.BroadcastsInDim S4x3072x32 (![] : Fin 0 → Fin S4x3072x32.rank)

variable [Facts]

def fn {F : FTy → Type} [FloatOps F] (main_arg0 : FVec F S4x3072x4096 .bf16) (main_arg1 : FVec F S4608x4096 .fp8e4m3) (main_arg2 : FVec F S36x32 .f32) (main_arg3 : FVec F S4608 .f32) : IVec S4x3072x32 1 :=
  let main_v0 : FVec F S4x3072x4096 .bf16 := Host.absf main_arg0
  let main_v1 : FVec F S4x3072x4096 .f32 := (extf .f32 · bitsLt_bf16_f32) main_v0
  let main_v2 : FVec F S4x3072x32x128 .f32 := shapeCast S4x3072x32x128 main_v1 shapeCasts_S4x3072x4096_S4x3072x32x128
  let main_cst : FVec F S_ .f32 := constant S_ .f32 0xFF800000#32
  let main_v3 : FVec F S4x3072x32 .f32 := (fun x v => Host.reduce FloatOps.maximumf x v reducesTo_S4x3072x32x128_S4x3072x32_d3 h_S_) main_v2 main_cst
  let main_cst_0 : FVec F S_ .f32 := constant S_ .f32 0x7F7F0000#32
  let main_v4 : FVec F S4x3072x32 .f32 := broadcastInDim S4x3072x32 ![] bcast_S_S4x3072x32 main_cst_0
  let main_v5 : IVec S4x3072x32 1 := cmpf .ole main_v3 main_v4
  let main_cst_1 : FVec F S_ .f32 := constant S_ .f32 0x00000000#32
  let main_v6 : FVec F S4x3072x32 .f32 := broadcastInDim S4x3072x32 ![] bcast_S_S4x3072x32 main_cst_1
  let main_v7 : IVec S4x3072x32 1 := cmpf .oeq main_v3 main_v6
  let main_cst_2 : FVec F S_ .f32 := constant S_ .f32 0x3B124925#32
  let main_v8 : FVec F S4x3072x32 .f32 := broadcastInDim S4x3072x32 ![] bcast_S_S4x3072x32 main_cst_2
  let main_v9 : FVec F S4x3072x32 .f32 := mulf main_v3 main_v8
  let main_cst_3 : FVec F S_ .f32 := constant S_ .f32 0x00800000#32
  let main_v10 : FVec F S4x3072x32 .f32 := broadcastInDim S4x3072x32 ![] bcast_S_S4x3072x32 main_cst_3
  let main_v11 : IVec S4x3072x32 1 := cmpf .oge main_v9 main_v10
  let main_v12 : IVec S4x3072x32 1 := ori main_v7 main_v11
  let main_v13 : IVec S4x3072x32 1 := andi main_v5 main_v12
  main_v13
-- ==== Kernel.lean ====
abbrev S4x3072x4096 : Shape := ⟨3, ![4, 3072, 4096]⟩
abbrev S4608x4096 : Shape := ⟨2, ![4608, 4096]⟩
abbrev S36x32 : Shape := ⟨2, ![36, 32]⟩
abbrev S4608 : Shape := ⟨1, ![4608]⟩
abbrev S12288x4096 : Shape := ⟨2, ![12288, 4096]⟩
abbrev S1x4608 : Shape := ⟨2, ![1, 4608]⟩
abbrev S12288x4608 : Shape := ⟨2, ![12288, 4608]⟩
abbrev S12288x32 : Shape := ⟨2, ![12288, 32]⟩
abbrev S512x4096 : Shape := ⟨2, ![512, 4096]⟩
abbrev S1x512 : Shape := ⟨2, ![1, 512]⟩
abbrev S512x512 : Shape := ⟨2, ![512, 512]⟩
abbrev S512x32 : Shape := ⟨2, ![512, 32]⟩
abbrev S32x512 : Shape := ⟨2, ![32, 512]⟩
abbrev S512x128 : Shape := ⟨2, ![512, 128]⟩
abbrev S512 : Shape := ⟨1, ![512]⟩
abbrev S512x1 : Shape := ⟨2, ![512, 1]⟩
abbrev S1x1 : Shape := ⟨2, ![1, 1]⟩
abbrev S128x512 : Shape := ⟨2, ![128, 512]⟩

abbrev nBuf : Space → Nat
  | .hbm => 9
  | .vmem => 13
  | .smem => 1
  | _ => 0

abbrev bufTy : (tb : Table) → Fin (tcTables nBuf tb) → BufTy
  | .hbm, ⟨0, _⟩ => ⟨S4x3072x4096, .bf16⟩
  | .hbm, ⟨1, _⟩ => ⟨S4608x4096, .fp8e4m3⟩
  | .hbm, ⟨2, _⟩ => ⟨S36x32, .f32⟩
  | .hbm, ⟨3, _⟩ => ⟨S4608, .f32⟩
  | .hbm, ⟨4, _⟩ => ⟨S12288x4096, .bf16⟩
  | .hbm, ⟨5, _⟩ => ⟨S1x4608, .f32⟩
  | .hbm, ⟨6, _⟩ => ⟨S12288x4608, .bf16⟩
  | .hbm, ⟨7, _⟩ => ⟨S12288x4096, .fp8e4m3⟩
  | .hbm, ⟨8, _⟩ => ⟨S12288x32, .f32⟩
  | .local _ .vmem, ⟨0, _⟩ => ⟨S512x4096, .bf16⟩
  | .local _ .vmem, ⟨1, _⟩ => ⟨S512x4096, .bf16⟩
  | .local _ .vmem, ⟨2, _⟩ => ⟨S4608x4096, .fp8e4m3⟩
  | .local _ .vmem, ⟨3, _⟩ => ⟨S1x512, .f32⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | .local _ .vmem, ⟨7, _⟩ => ⟨S512x4096, .fp8e4m3⟩
  | .local _ .vmem, ⟨8, _⟩ => ⟨S512x4096, .fp8e4m3⟩
  | .local _ .vmem, ⟨9, _⟩ => ⟨S512x32, .f32⟩
  | .local _ .vmem, ⟨10, _⟩ => ⟨S512x32, .f32⟩
  | .local _ .vmem, ⟨11, _⟩ => ⟨S32x512, .f32⟩
  | .local _ .vmem, ⟨12, _⟩ => ⟨S512x512, .f32⟩
  | .local _ .smem, ⟨0, _⟩ => ⟨S36x32, .f32⟩
  | _, _ => ⟨S4x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![24, 9], ![false, false]⟩

def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : Index := Scalar.indexCast v3
  let c0 : Index := 0#32
  ![v4.toNat, 0]
def k0_off2 (i : grid0.Coords) : Fin 2 → Nat :=
  let arg1 : BitVec 32 := BitVec.ofNat 32 (i 1).val
  let c512_i32_3 : BitVec 32 := 512#32
  let v9 : BitVec 32 := Scalar.muli arg1 c512_i32_3
  let v10 : Index := Scalar.indexCast v9
  let c128 : Index := 128#32
  ![v10.toNat, 128]
def k0_off3 (i : grid0.Coords) (c0_i32_9 : BitVec 32) : Fin 2 → Nat :=
  let arg1 : BitVec 32 := BitVec.ofNat 32 (i 1).val
  let c4_i32 : BitVec 32 := 4#32
  let v16 : BitVec 32 := Scalar.muli arg1 c4_i32
  let v17 : BitVec 32 := Scalar.addi v16 c0_i32_9
  let v18 : Index := Scalar.indexCast v17
  let c0_10 : Index := 0#32
  ![v18.toNat, 0]
def k0_off4 (i : grid0.Coords) (c0_i32_13 : BitVec 32) : Fin 2 → Nat :=
  let arg1 : BitVec 32 := BitVec.ofNat 32 (i 1).val
  let c4_i32_12 : BitVec 32 := 4#32
  let v26 : BitVec 32 := Scalar.muli arg1 c4_i32_12
  let v27 : BitVec 32 := Scalar.addi v26 c0_i32_13
  let v28 : Index := Scalar.indexCast v27
  let c1_14 : Index := 1#32
  ![v28.toNat, 1]
def k0_off5 (i : grid0.Coords) : Fin 2 → Nat :=
  let arg1 : BitVec 32 := BitVec.ofNat 32 (i 1).val
  let c512_i32_48 : BitVec 32 := 512#32
  let v111 : BitVec 32 := Scalar.muli arg1 c512_i32_48
  let v112 : Index := Scalar.indexCast v111
  let c256_49 : Index := 256#32
  ![v112.toNat, 256]
def k0_off6 (i : grid0.Coords) : Fin 2 → Nat :=
  let arg1 : BitVec 32 := BitVec.ofNat 32 (i 1).val
  let c512_i32_53 : BitVec 32 := 512#32
  let v117 : BitVec 32 := Scalar.muli arg1 c512_i32_53
  let v118 : Index := Scalar.indexCast v117
  let c384_54 : Index := 384#32
  ![v118.toNat, 384]
def k0_off7 (i : grid0.Coords) (c0_i32_60 : BitVec 32) : Fin 2 → Nat :=
  let arg1 : BitVec 32 := BitVec.ofNat 32 (i 1).val
  let c4_i32_59 : BitVec 32 := 4#32
  let v124 : BitVec 32 := Scalar.muli arg1 c4_i32_59
  let v125 : BitVec 32 := Scalar.addi v124 c0_i32_60
  let v126 : Index := Scalar.indexCast v125
  let c2_61 : Index := 2#32
  ![v126.toNat, 2]
def k0_off8 (i : grid0.Coords) (c0_i32_64 : BitVec 32) : Fin 2 → Nat :=
  let arg1 : BitVec 32 := BitVec.ofNat 32 (i 1).val
  let c4_i32_63 : BitVec 32 := 4#32
  let v134 : BitVec 32 := Scalar.muli arg1 c4_i32_63
  let v135 : BitVec 32 := Scalar.addi v134 c0_i32_64
  let v136 : Index := Scalar.indexCast v135
  let c3_65 : Index := 3#32
  ![v136.toNat, 3]
def k0_off9 (i : grid0.Coords) : Fin 2 → Nat :=
  let arg1 : BitVec 32 := BitVec.ofNat 32 (i 1).val
  let c512_i32_112 : BitVec 32 := 512#32
  let v227 : BitVec 32 := Scalar.muli arg1 c512_i32_112
  let v228 : Index := Scalar.indexCast v227
  let c512 : Index := 512#32
  ![v228.toNat, 512]
def k0_off10 (i : grid0.Coords) : Fin 2 → Nat :=
  let arg1 : BitVec 32 := BitVec.ofNat 32 (i 1).val
  let c512_i32_116 : BitVec 32 := 512#32
  let v233 : BitVec 32 := Scalar.muli arg1 c512_i32_116
  let v234 : Index := Scalar.indexCast v233
  let c640 : Index := 640#32
  ![v234.toNat, 640]
def k0_off11 (i : grid0.Coords) (c0_i32_122 : BitVec 32) : Fin 2 → Nat :=
  let arg1 : BitVec 32 := BitVec.ofNat 32 (i 1).val
  let c4_i32_121 : BitVec 32 := 4#32
  let v240 : BitVec 32 := Scalar.muli arg1 c4_i32_121
  let v241 : BitVec 32 := Scalar.addi v240 c0_i32_122
  let v242 : Index := Scalar.indexCast v241
  let c4_123 : Index := 4#32
  ![v242.toNat, 4]
def k0_off12 (i : grid0.Coords) (c0_i32_126 : BitVec 32) : Fin 2 → Nat :=
  let arg1 : BitVec 32 := BitVec.ofNat 32 (i 1).val
  let c4_i32_125 : BitVec 32 := 4#32
  let v250 : BitVec 32 := Scalar.muli arg1 c4_i32_125
  let v251 : BitVec 32 := Scalar.addi v250 c0_i32_126
  let v252 : Index := Scalar.indexCast v251
  let c5_127 : Index := 5#32
  ![v252.toNat, 5]
def k0_off13 (i : grid0.Coords) : Fin 2 → Nat :=
  let arg1 : BitVec 32 := BitVec.ofNat 32 (i 1).val
  let c512_i32_174 : BitVec 32 := 512#32
  let v343 : BitVec 32 := Scalar.muli arg1 c512_i32_174
  let v344 : Index := Scalar.indexCast v343
  let c768 : Index := 768#32
  ![v344.toNat, 768]
def k0_off14 (i : grid0.Coords) : Fin 2 → Nat :=
  let arg1 : BitVec 32 := BitVec.ofNat 32 (i 1).val
  let c512_i32_178 : BitVec 32 := 512#32
  let v349 : BitVec 32 := Scalar.muli arg1 c512_i32_178
  let v350 : Index := Scalar.indexCast v349
  let c896 : Index := 896#32
  ![v350.toNat, 896]
def k0_off15 (i : grid0.Coords) (c0_i32_184 : BitVec 32) : Fin 2 → Nat :=
  let arg1 : BitVec 32 := BitVec.ofNat 32 (i 1).val
  let c4_i32_183 : BitVec 32 := 4#32
  let v356 : BitVec 32 := Scalar.muli arg1 c4_i32_183
  let v357 : BitVec 32 := Scalar.addi v356 c0_i32_184
  let v358 : Index := Scalar.indexCast v357
  let c6_185 : Index := 6#32
  ![v358.toNat, 6]
def k0_off16 (i : grid0.Coords) (c0_i32_188 : BitVec 32) : Fin 2 → Nat :=
  let arg1 : BitVec 32 := BitVec.ofNat 32 (i 1).val
  let c4_i32_187 : BitVec 32 := 4#32
  let v366 : BitVec 32 := Scalar.muli arg1 c4_i32_187
  let v367 : BitVec 32 := Scalar.addi v366 c0_i32_188
  let v368 : Index := Scalar.indexCast v367
  let c7_189 : Index := 7#32
  ![v368.toNat, 7]
def k0_off17 (i : grid0.Coords) : Fin 2 → Nat :=
  let arg1 : BitVec 32 := BitVec.ofNat 32 (i 1).val
  let c512_i32_236 : BitVec 32 := 512#32
  let v459 : BitVec 32 := Scalar.muli arg1 c512_i32_236
  let v460 : Index := Scalar.indexCast v459
  let c1024 : Index := 1024#32
  ![v460.toNat, 1024]
def k0_off18 (i : grid0.Coords) : Fin 2 → Nat :=
  let arg1 : BitVec 32 := BitVec.ofNat 32 (i 1).val
  let c512_i32_240 : BitVec 32 := 512#32
  let v465 : BitVec 32 := Scalar.muli arg1 c512_i32_240
  let v466 : Index := Scalar.indexCast v465
  let c1152 : Index := 1152#32
  ![v466.toNat, 1152]
def k0_off19 (i : grid0.Coords) (c0_i32_246 : BitVec 32) : Fin 2 → Nat :=
  let arg1 : BitVec 32 := BitVec.ofNat 32 (i 1).val
  let c4_i32_245 : BitVec 32 := 4#32
  let v472 : BitVec 32 := Scalar.muli arg1 c4_i32_245
  let v473 : BitVec 32 := Scalar.addi v472 c0_i32_246
  let v474 : Index := Scalar.indexCast v473
  let c8_247 : Index := 8#32
  ![v474.toNat, 8]
def k0_off20 (i : grid0.Coords) (c0_i32_250 : BitVec 32) : Fin 2 → Nat :=
  let arg1 : BitVec 32 := BitVec.ofNat 32 (i 1).val
  let c4_i32_249 : BitVec 32 := 4#32
  let v482 : BitVec 32 := Scalar.muli arg1 c4_i32_249
  let v483 : BitVec 32 := Scalar.addi v482 c0_i32_250
  let v484 : Index := Scalar.indexCast v483
  let c9_251 : Index := 9#32
  ![v484.toNat, 9]
def k0_off21 (i : grid0.Coords) : Fin 2 → Nat :=
  let arg1 : BitVec 32 := BitVec.ofNat 32 (i 1).val
  let c512_i32_298 : BitVec 32 := 512#32
  let v575 : BitVec 32 := Scalar.muli arg1 c512_i32_298
  let v576 : Index := Scalar.indexCast v575
  let c1280 : Index := 1280#32
  ![v576.toNat, 1280]
def k0_off22 (i : grid0.Coords) : Fin 2 → Nat :=
  let arg1 : BitVec 32 := BitVec.ofNat 32 (i 1).val
  let c512_i32_302 : BitVec 32 := 512#32
  let v581 : BitVec 32 := Scalar.muli arg1 c512_i32_302
  let v582 : Index := Scalar.indexCast v581
  let c1408 : Index := 1408#32
  ![v582.toNat, 1408]
def k0_off23 (i : grid0.Coords) (c0_i32_308 : BitVec 32) : Fin 2 → Nat :=
  let arg1 : BitVec 32 := BitVec.ofNat 32 (i 1).val
  let c4_i32_307 : BitVec 32 := 4#32
  let v588 : BitVec 32 := Scalar.muli arg1 c4_i32_307
  let v589 : BitVec 32 := Scalar.addi v588 c0_i32_308
  let v590 : Index := Scalar.indexCast v589
  let c10_309 : Index := 10#32
  ![v590.toNat, 10]
def k0_off24 (i : grid0.Coords) (c0_i32_312 : BitVec 32) : Fin 2 → Nat :=
  let arg1 : BitVec 32 := BitVec.ofNat 32 (i 1).val
  let c4_i32_311 : BitVec 32 := 4#32
  let v598 : BitVec 32 := Scalar.muli arg1 c4_i32_311
  let v599 : BitVec 32 := Scalar.addi v598 c0_i32_312
  let v600 : Index := Scalar.indexCast v599
  let c11_313 : Index := 11#32
  ![v600.toNat, 11]
def k0_off25 (i : grid0.Coords) : Fin 2 → Nat :=
  let arg1 : BitVec 32 := BitVec.ofNat 32 (i 1).val
  let c512_i32_360 : BitVec 32 := 512#32
  let v691 : BitVec 32 := Scalar.muli arg1 c512_i32_360
  let v692 : Index := Scalar.indexCast v691
  let c1536 : Index := 1536#32
  ![v692.toNat, 1536]
def k0_off26 (i : grid0.Coords) : Fin 2 → Nat :=
  let arg1 : BitVec 32 := BitVec.ofNat 32 (i 1).val
  let c512_i32_364 : BitVec 32 := 512#32
  let v697 : BitVec 32 := Scalar.muli arg1 c512_i32_364
  let v698 : Index := Scalar.indexCast v697
  let c1664 : Index := 1664#32
  ![v698.toNat, 1664]
def k0_off27 (i : grid0.Coords) (c0_i32_370 : BitVec 32) : Fin 2 → Nat :=
  let arg1 : BitVec 32 := BitVec.ofNat 32 (i 1).val
  let c4_i32_369 : BitVec 32 := 4#32
  let v704 : BitVec 32 := Scalar.muli arg1 c4_i32_369
  let v705 : BitVec 32 := Scalar.addi v704 c0_i32_370
  let v706 : Index := Scalar.indexCast v705
  let c12_371 : Index := 12#32
  ![v706.toNat, 12]
def k0_off28 (i : grid0.Coords) (c0_i32_374 : BitVec 32) : Fin 2 → Nat :=
  let arg1 : BitVec 32 := BitVec.ofNat 32 (i 1).val
  let c4_i32_373 : BitVec 32 := 4#32
  let v714 : BitVec 32 := Scalar.muli arg1 c4_i32_373
  let v715 : BitVec 32 := Scalar.addi v714 c0_i32_374
  let v716 : Index := Scalar.indexCast v715
  let c13_375 : Index := 13#32
  ![v716.toNat, 13]
def k0_off29 (i : grid0.Coords) : Fin 2 → Nat :=
  let arg1 : BitVec 32 := BitVec.ofNat 32 (i 1).val
  let c512_i32_422 : BitVec 32 := 512#32
  let v807 : BitVec 32 := Scalar.muli arg1 c512_i32_422
  let v808 : Index := Scalar.indexCast v807
  let c1792 : Index := 1792#32
  ![v808.toNat, 1792]
def k0_off30 (i : grid0.Coords) : Fin 2 → Nat :=
  let arg1 : BitVec 32 := BitVec.ofNat 32 (i 1).val
  let c512_i32_426 : BitVec 32 := 512#32
  let v813 : BitVec 32 := Scalar.muli arg1 c512_i32_426
  let v814 : Index := Scalar.indexCast v813
  let c1920 : Index := 1920#32
  ![v814.toNat, 1920]
def k0_off31 (i : grid0.Coords) (c0_i32_432 : BitVec 32) : Fin 2 → Nat :=
  let arg1 : BitVec 32 := BitVec.ofNat 32 (i 1).val
  let c4_i32_431 : BitVec 32 := 4#32
  let v820 : BitVec 32 := Scalar.muli arg1 c4_i32_431
  let v821 : BitVec 32 := Scalar.addi v820 c0_i32_432
  let v822 : Index := Scalar.indexCast v821
  let c14_433 : Index := 14#32
  ![v822.toNat, 14]
def k0_off32 (i : grid0.Coords) (c0_i32_436 : BitVec 32) : Fin 2 → Nat :=
  let arg1 : BitVec 32 := BitVec.ofNat 32 (i 1).val
  let c4_i32_435 : BitVec 32 := 4#32
  let v830 : BitVec 32 := Scalar.muli arg1 c4_i32_435
  let v831 : BitVec 32 := Scalar.addi v830 c0_i32_436
  let v832 : Index := Scalar.indexCast v831
  let c15_437 : Index := 15#32
  ![v832.toNat, 15]
def k0_off33 (i : grid0.Coords) : Fin 2 → Nat :=
  let arg1 : BitVec 32 := BitVec.ofNat 32 (i 1).val
  let c512_i32_484 : BitVec 32 := 512#32
  let v923 : BitVec 32 := Scalar.muli arg1 c512_i32_484
  let v924 : Index := Scalar.indexCast v923
  let c2048 : Index := 2048#32
  ![v924.toNat, 2048]
def k0_off34 (i : grid0.Coords) : Fin 2 → Nat :=
  let arg1 : BitVec 32 := BitVec.ofNat 32 (i 1).val
  let c512_i32_488 : BitVec 32 := 512#32
  let v929 : BitVec 32 := Scalar.muli arg1 c512_i32_488
  let v930 : Index := Scalar.indexCast v929
  let c2176 : Index := 2176#32
  ![v930.toNat, 2176]
def k0_off35 (i : grid0.Coords) (c0_i32_494 : BitVec 32) : Fin 2 → Nat :=
  let arg1 : BitVec 32 := BitVec.ofNat 32 (i 1).val
  let c4_i32_493 : BitVec 32 := 4#32
  let v936 : BitVec 32 := Scalar.muli arg1 c4_i32_493
  let v937 : BitVec 32 := Scalar.addi v936 c0_i32_494
  let v938 : Index := Scalar.indexCast v937
  let c16_495 : Index := 16#32
  ![v938.toNat, 16]
def k0_off36 (i : grid0.Coords) (c0_i32_498 : BitVec 32) : Fin 2 → Nat :=
  let arg1 : BitVec 32 := BitVec.ofNat 32 (i 1).val
  let c4_i32_497 : BitVec 32 := 4#32
  let v946 : BitVec 32 := Scalar.muli arg1 c4_i32_497
  let v947 : BitVec 32 := Scalar.addi v946 c0_i32_498
  let v948 : Index := Scalar.indexCast v947
  let c17_499 : Index := 17#32
  ![v948.toNat, 17]
def k0_off37 (i : grid0.Coords) : Fin 2 → Nat :=
  let arg1 : BitVec 32 := BitVec.ofNat 32 (i 1).val
  let c512_i32_546 : BitVec 32 := 512#32
  let v1039 : BitVec 32 := Scalar.muli arg1 c512_i32_546
  let v1040 : Index := Scalar.indexCast v1039
  let c2304 : Index := 2304#32
  ![v1040.toNat, 2304]
def k0_off38 (i : grid0.Coords) : Fin 2 → Nat :=
  let arg1 : BitVec 32 := BitVec.ofNat 32 (i 1).val
  let c512_i32_550 : BitVec 32 := 512#32
  let v1045 : BitVec 32 := Scalar.muli arg1 c512_i32_550
  let v1046 : Index := Scalar.indexCast v1045
  let c2432 : Index := 2432#32
  ![v1046.toNat, 2432]
def k0_off39 (i : grid0.Coords) (c0_i32_556 : BitVec 32) : Fin 2 → Nat :=
  let arg1 : BitVec 32 := BitVec.ofNat 32 (i 1).val
  let c4_i32_555 : BitVec 32 := 4#32
  let v1052 : BitVec 32 := Scalar.muli arg1 c4_i32_555
  let v1053 : BitVec 32 := Scalar.addi v1052 c0_i32_556
  let v1054 : Index := Scalar.indexCast v1053
  let c18_557 : Index := 18#32
  ![v1054.toNat, 18]
def k0_off40 (i : grid0.Coords) (c0_i32_560 : BitVec 32) : Fin 2 → Nat :=
  let arg1 : BitVec 32 := BitVec.ofNat 32 (i 1).val
  let c4_i32_559 : BitVec 32 := 4#32
  let v1062 : BitVec 32 := Scalar.muli arg1 c4_i32_559
  let v1063 : BitVec 32 := Scalar.addi v1062 c0_i32_560
  let v1064 : Index := Scalar.indexCast v1063
  let c19_561 : Index := 19#32
  ![v1064.toNat, 19]
def k0_off41 (i : grid0.Coords) : Fin 2 → Nat :=
  let arg1 : BitVec 32 := BitVec.ofNat 32 (i 1).val
  let c512_i32_608 : BitVec 32 := 512#32
  let v1155 : BitVec 32 := Scalar.muli arg1 c512_i32_608
  let v1156 : Index := Scalar.indexCast v1155
  let c2560 : Index := 2560#32
  ![v1156.toNat, 2560]
def k0_off42 (i : grid0.Coords) : Fin 2 → Nat :=
  let arg1 : BitVec 32 := BitVec.ofNat 32 (i 1).val
  let c512_i32_612 : BitVec 32 := 512#32
  let v1161 : BitVec 32 := Scalar.muli arg1 c512_i32_612
  let v1162 : Index := Scalar.indexCast v1161
  let c2688 : Index := 2688#32
  ![v1162.toNat, 2688]
def k0_off43 (i : grid0.Coords) (c0_i32_618 : BitVec 32) : Fin 2 → Nat :=
  let arg1 : BitVec 32 := BitVec.ofNat 32 (i 1).val
  let c4_i32_617 : BitVec 32 := 4#32
  let v1168 : BitVec 32 := Scalar.muli arg1 c4_i32_617
  let v1169 : BitVec 32 := Scalar.addi v1168 c0_i32_618
  let v1170 : Index := Scalar.indexCast v1169
  let c20_619 : Index := 20#32
  ![v1170.toNat, 20]
def k0_off44 (i : grid0.Coords) (c0_i32_622 : BitVec 32) : Fin 2 → Nat :=
  let arg1 : BitVec 32 := BitVec.ofNat 32 (i 1).val
  let c4_i32_621 : BitVec 32 := 4#32
  let v1178 : BitVec 32 := Scalar.muli arg1 c4_i32_621
  let v1179 : BitVec 32 := Scalar.addi v1178 c0_i32_622
  let v1180 : Index := Scalar.indexCast v1179
  let c21_623 : Index := 21#32
  ![v1180.toNat, 21]
def k0_off45 (i : grid0.Coords) : Fin 2 → Nat :=
  let arg1 : BitVec 32 := BitVec.ofNat 32 (i 1).val
  let c512_i32_670 : BitVec 32 := 512#32
  let v1271 : BitVec 32 := Scalar.muli arg1 c512_i32_670
  let v1272 : Index := Scalar.indexCast v1271
  let c2816 : Index := 2816#32
  ![v1272.toNat, 2816]
def k0_off46 (i : grid0.Coords) : Fin 2 → Nat :=
  let arg1 : BitVec 32 := BitVec.ofNat 32 (i 1).val
  let c512_i32_674 : BitVec 32 := 512#32
  let v1277 : BitVec 32 := Scalar.muli arg1 c512_i32_674
  let v1278 : Index := Scalar.indexCast v1277
  let c2944 : Index := 2944#32
  ![v1278.toNat, 2944]
def k0_off47 (i : grid0.Coords) (c0_i32_680 : BitVec 32) : Fin 2 → Nat :=
  let arg1 : BitVec 32 := BitVec.ofNat 32 (i 1).val
  let c4_i32_679 : BitVec 32 := 4#32
  let v1284 : BitVec 32 := Scalar.muli arg1 c4_i32_679
  let v1285 : BitVec 32 := Scalar.addi v1284 c0_i32_680
  let v1286 : Index := Scalar.indexCast v1285
  let c22_681 : Index := 22#32
  ![v1286.toNat, 22]
def k0_off48 (i : grid0.Coords) (c0_i32_684 : BitVec 32) : Fin 2 → Nat :=
  let arg1 : BitVec 32 := BitVec.ofNat 32 (i 1).val
  let c4_i32_683 : BitVec 32 := 4#32
  let v1294 : BitVec 32 := Scalar.muli arg1 c4_i32_683
  let v1295 : BitVec 32 := Scalar.addi v1294 c0_i32_684
  let v1296 : Index := Scalar.indexCast v1295
  let c23_685 : Index := 23#32
  ![v1296.toNat, 23]
def k0_off49 (i : grid0.Coords) : Fin 2 → Nat :=
  let arg1 : BitVec 32 := BitVec.ofNat 32 (i 1).val
  let c512_i32_732 : BitVec 32 := 512#32
  let v1387 : BitVec 32 := Scalar.muli arg1 c512_i32_732
  let v1388 : Index := Scalar.indexCast v1387
  let c3072 : Index := 3072#32
  ![v1388.toNat, 3072]
def k0_off50 (i : grid0.Coords) : Fin 2 → Nat :=
  let arg1 : BitVec 32 := BitVec.ofNat 32 (i 1).val
  let c512_i32_736 : BitVec 32 := 512#32
  let v1393 : BitVec 32 := Scalar.muli arg1 c512_i32_736
  let v1394 : Index := Scalar.indexCast v1393
  let c3200 : Index := 3200#32
  ![v1394.toNat, 3200]
def k0_off51 (i : grid0.Coords) (c0_i32_742 : BitVec 32) : Fin 2 → Nat :=
  let arg1 : BitVec 32 := BitVec.ofNat 32 (i 1).val
  let c4_i32_741 : BitVec 32 := 4#32
  let v1400 : BitVec 32 := Scalar.muli arg1 c4_i32_741
  let v1401 : BitVec 32 := Scalar.addi v1400 c0_i32_742
  let v1402 : Index := Scalar.indexCast v1401
  let c24_743 : Index := 24#32
  ![v1402.toNat, 24]
def k0_off52 (i : grid0.Coords) (c0_i32_746 : BitVec 32) : Fin 2 → Nat :=
  let arg1 : BitVec 32 := BitVec.ofNat 32 (i 1).val
  let c4_i32_745 : BitVec 32 := 4#32
  let v1410 : BitVec 32 := Scalar.muli arg1 c4_i32_745
  let v1411 : BitVec 32 := Scalar.addi v1410 c0_i32_746
  let v1412 : Index := Scalar.indexCast v1411
  let c25_747 : Index := 25#32
  ![v1412.toNat, 25]
def k0_off53 (i : grid0.Coords) : Fin 2 → Nat :=
  let arg1 : BitVec 32 := BitVec.ofNat 32 (i 1).val
  let c512_i32_794 : BitVec 32 := 512#32
  let v1503 : BitVec 32 := Scalar.muli arg1 c512_i32_794
  let v1504 : Index := Scalar.indexCast v1503
  let c3328 : Index := 3328#32
  ![v1504.toNat, 3328]
def k0_off54 (i : grid0.Coords) : Fin 2 → Nat :=
  let arg1 : BitVec 32 := BitVec.ofNat 32 (i 1).val
  let c512_i32_798 : BitVec 32 := 512#32
  let v1509 : BitVec 32 := Scalar.muli arg1 c512_i32_798
  let v1510 : Index := Scalar.indexCast v1509
  let c3456 : Index := 3456#32
  ![v1510.toNat, 3456]
def k0_off55 (i : grid0.Coords) (c0_i32_804 : BitVec 32) : Fin 2 → Nat :=
  let arg1 : BitVec 32 := BitVec.ofNat 32 (i 1).val
  let c4_i32_803 : BitVec 32 := 4#32
  let v1516 : BitVec 32 := Scalar.muli arg1 c4_i32_803
  let v1517 : BitVec 32 := Scalar.addi v1516 c0_i32_804
  let v1518 : Index := Scalar.indexCast v1517
  let c26_805 : Index := 26#32
  ![v1518.toNat, 26]
def k0_off56 (i : grid0.Coords) (c0_i32_808 : BitVec 32) : Fin 2 → Nat :=
  let arg1 : BitVec 32 := BitVec.ofNat 32 (i 1).val
  let c4_i32_807 : BitVec 32 := 4#32
  let v1526 : BitVec 32 := Scalar.muli arg1 c4_i32_807
  let v1527 : BitVec 32 := Scalar.addi v1526 c0_i32_808
  let v1528 : Index := Scalar.indexCast v1527
  let c27_809 : Index := 27#32
  ![v1528.toNat, 27]
def k0_off57 (i : grid0.Coords) : Fin 2 → Nat :=
  let arg1 : BitVec 32 := BitVec.ofNat 32 (i 1).val
  let c512_i32_856 : BitVec 32 := 512#32
  let v1619 : BitVec 32 := Scalar.muli arg1 c512_i32_856
  let v1620 : Index := Scalar.indexCast v1619
  let c3584 : Index := 3584#32
  ![v1620.toNat, 3584]
def k0_off58 (i : grid0.Coords) : Fin 2 → Nat :=
  let arg1 : BitVec 32 := BitVec.ofNat 32 (i 1).val
  let c512_i32_860 : BitVec 32 := 512#32
  let v1625 : BitVec 32 := Scalar.muli arg1 c512_i32_860
  let v1626 : Index := Scalar.indexCast v1625
  let c3712 : Index := 3712#32
  ![v1626.toNat, 3712]
def k0_off59 (i : grid0.Coords) (c0_i32_866 : BitVec 32) : Fin 2 → Nat :=
  let arg1 : BitVec 32 := BitVec.ofNat 32 (i 1).val
  let c4_i32_865 : BitVec 32 := 4#32
  let v1632 : BitVec 32 := Scalar.muli arg1 c4_i32_865
  let v1633 : BitVec 32 := Scalar.addi v1632 c0_i32_866
  let v1634 : Index := Scalar.indexCast v1633
  let c28_867 : Index := 28#32
  ![v1634.toNat, 28]
def k0_off60 (i : grid0.Coords) (c0_i32_870 : BitVec 32) : Fin 2 → Nat :=
  let arg1 : BitVec 32 := BitVec.ofNat 32 (i 1).val
  let c4_i32_869 : BitVec 32 := 4#32
  let v1642 : BitVec 32 := Scalar.muli arg1 c4_i32_869
  let v1643 : BitVec 32 := Scalar.addi v1642 c0_i32_870
  let v1644 : Index := Scalar.indexCast v1643
  let c29_871 : Index := 29#32
  ![v1644.toNat, 29]
def k0_off61 (i : grid0.Coords) : Fin 2 → Nat :=
  let arg1 : BitVec 32 := BitVec.ofNat 32 (i 1).val
  let c512_i32_918 : BitVec 32 := 512#32
  let v1735 : BitVec 32 := Scalar.muli arg1 c512_i32_918
  let v1736 : Index := Scalar.indexCast v1735
  let c3840 : Index := 3840#32
  ![v1736.toNat, 3840]
def k0_off62 (i : grid0.Coords) : Fin 2 → Nat :=
  let arg1 : BitVec 32 := BitVec.ofNat 32 (i 1).val
  let c512_i32_922 : BitVec 32 := 512#32
  let v1741 : BitVec 32 := Scalar.muli arg1 c512_i32_922
  let v1742 : Index := Scalar.indexCast v1741
  let c3968 : Index := 3968#32
  ![v1742.toNat, 3968]
def k0_off63 (i : grid0.Coords) (c0_i32_928 : BitVec 32) : Fin 2 → Nat :=
  let arg1 : BitVec 32 := BitVec.ofNat 32 (i 1).val
  let c4_i32_927 : BitVec 32 := 4#32
  let v1748 : BitVec 32 := Scalar.muli arg1 c4_i32_927
  let v1749 : BitVec 32 := Scalar.addi v1748 c0_i32_928
  let v1750 : Index := Scalar.indexCast v1749
  let c30_929 : Index := 30#32
  ![v1750.toNat, 30]
def k0_off64 (i : grid0.Coords) (c0_i32_932 : BitVec 32) : Fin 2 → Nat :=
  let arg1 : BitVec 32 := BitVec.ofNat 32 (i 1).val
  let c4_i32_931 : BitVec 32 := 4#32
  let v1758 : BitVec 32 := Scalar.muli arg1 c4_i32_931
  let v1759 : BitVec 32 := Scalar.addi v1758 c0_i32_932
  let v1760 : Index := Scalar.indexCast v1759
  let c31_933 : Index := 31#32
  ![v1760.toNat, 31]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S36x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4608x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4x3072x4096 : Shape := ⟨3, ![4, 3072, 4096]⟩
abbrev S4608x4096 : Shape := ⟨2, ![4608, 4096]⟩
abbrev S36x32 : Shape := ⟨2, ![36, 32]⟩
abbrev S4608 : Shape := ⟨1, ![4608]⟩
abbrev S12288x4608 : Shape := ⟨2, ![12288, 4608]⟩
abbrev S12288x4096 : Shape := ⟨2, ![12288, 4096]⟩
abbrev S12288x32 : Shape := ⟨2, ![12288, 32]⟩
abbrev S12288x32x128 : Shape := ⟨3, ![12288, 32, 128]⟩
abbrev S12288x32x253 : Shape := ⟨3, ![12288, 32, 253]⟩
abbrev S12288x32x1 : Shape := ⟨3, ![12288, 32, 1]⟩
abbrev S4608x32x128 : Shape := ⟨3, ![4608, 32, 128]⟩
abbrev S32x12288x4608 : Shape := ⟨3, ![32, 12288, 4608]⟩
abbrev S36x1x32 : Shape := ⟨3, ![36, 1, 32]⟩
abbrev S36x128x32 : Shape := ⟨3, ![36, 128, 32]⟩
abbrev S4608x32 : Shape := ⟨2, ![4608, 32]⟩
abbrev S32x4608 : Shape := ⟨2, ![32, 4608]⟩
abbrev S32x12288 : Shape := ⟨2, ![32, 12288]⟩
abbrev S32x12288x1 : Shape := ⟨3, ![32, 12288, 1]⟩
abbrev S32x1x4608 : Shape := ⟨3, ![32, 1, 4608]⟩
abbrev S1x4608 : Shape := ⟨2, ![1, 4608]⟩

abbrev nBuf : Space → Nat
  | .hbm => 7
  | .vmem => 7
  | .smem => 0
  | _ => 0

abbrev bufTy : (tb : Table) → Fin (tcTables nBuf tb) → BufTy
  | .hbm, ⟨0, _⟩ => ⟨S4x3072x4096, .bf16⟩
  | .hbm, ⟨1, _⟩ => ⟨S4608x4096, .fp8e4m3⟩
  | .hbm, ⟨2, _⟩ => ⟨S36x32, .f32⟩
  | .hbm, ⟨3, _⟩ => ⟨S4608, .f32⟩
  | .hbm, ⟨4, _⟩ => ⟨S12288x4608, .bf16⟩
  | .hbm, ⟨5, _⟩ => ⟨S12288x4096, .fp8e4m3⟩
  | .hbm, ⟨6, _⟩ => ⟨S12288x32, .f32⟩
  | .local _ .vmem, ⟨0, _⟩ => ⟨S4x3072x4096, .bf16⟩
  | .local _ .vmem, ⟨1, _⟩ => ⟨S4608x4096, .fp8e4m3⟩
  | .local _ .vmem, ⟨2, _⟩ => ⟨S36x32, .f32⟩
  | .local _ .vmem, ⟨3, _⟩ => ⟨S4608, .f32⟩
  | .local _ .vmem, ⟨4, _⟩ => ⟨S12288x4608, .bf16⟩
  | .local _ .vmem, ⟨5, _⟩ => ⟨S12288x4096, .fp8e4m3⟩
  | .local _ .vmem, ⟨6, _⟩ => ⟨S12288x32, .f32⟩
  | _, _ => ⟨S4x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x3072x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Setup.lean ====
/- What the hand-written frame of the kernel is stated over: the condition under which the body quantises (the first
   point of each row of the grid), the staging and scratch memrefs of a point, and the region's invariant over them. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 9) — by arithmetic of the point. -/
theorem hcond0_0 : ∀ t : Fin cfg0.N, cond0_0 (grid0.coords t) ↔ t.val % 9 = 0 :=
  (fun t => by
    have ht : t.val < 216 := Nat.lt_of_lt_of_eq t.isLt N_0
    have e0 : (grid0.coords t 0).val = t.val / 9 % 24 := Pipeline.Grid.coords_val t 0 (by decide) rfl
    have e1 : (grid0.coords t 1).val = t.val / 1 % 9 := Pipeline.Grid.coords_val t 1 (by decide) rfl
    simp only [cond0_0, k0_cond1, e0, e1]
    word_cmp
   : ∀ t : Fin grid0.N, cond0_0 (grid0.coords t) ↔ t.val % 9 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Window 0's staging buffer at a point. -/
abbrev ms0_0 (t : Fin cfg0.N) : Memref sig .tc .smem S36x32 .f32 := win0_0.stage (cfg0.slots t 0)
/-- Window 0's staging buffer is whole. -/
abbrev hs0_0 (t : Fin cfg0.N) : (ms0_0 t).IsWhole := hstage0_0 ((cfg0.slots t 0).cast nbuf0_0)
/-- Window 1's staging buffer at a point. -/
abbrev ms0_1 (t : Fin cfg0.N) : Memref sig .tc .vmem S512x4096 .bf16 := win0_1.stage (cfg0.slots t 1)
/-- Window 1's staging buffer is whole. -/
abbrev hs0_1 (t : Fin cfg0.N) : (ms0_1 t).IsWhole := hstage0_1 ((cfg0.slots t 1).cast nbuf0_1)
/-- Window 2's staging buffer at a point. -/
abbrev ms0_2 (t : Fin cfg0.N) : Memref sig .tc .vmem S4608x4096 .fp8e4m3 := win0_2.stage (cfg0.slots t 2)
/-- Window 2's staging buffer is whole. -/
abbrev hs0_2 (t : Fin cfg0.N) : (ms0_2 t).IsWhole := hstage0_2 ((cfg0.slots t 2).cast nbuf0_2)
/-- Window 3's staging buffer at a point. -/
abbrev ms0_3 (t : Fin cfg0.N) : Memref sig .tc .vmem S1x512 .f32 := win0_3.stage (cfg0.slots t 3)
/-- Window 3's staging buffer is whole. -/
abbrev hs0_3 (t : Fin cfg0.N) : (ms0_3 t).IsWhole := hstage0_3 ((cfg0.slots t 3).cast nbuf0_3)
/-- Window 4's staging buffer at a point. -/
abbrev ms0_4 (t : Fin cfg0.N) : Memref sig .tc .vmem S512x512 .bf16 := win0_4.stage (cfg0.slots t 4)
/-- Window 4's staging buffer is whole. -/
abbrev hs0_4 (t : Fin cfg0.N) : (ms0_4 t).IsWhole := hstage0_4 ((cfg0.slots t 4).cast nbuf0_4)
/-- Window 5's staging buffer at a point. -/
abbrev ms0_5 (t : Fin cfg0.N) : Memref sig .tc .vmem S512x4096 .fp8e4m3 := win0_5.stage (cfg0.slots t 5)
/-- Window 5's staging buffer is whole. -/
abbrev hs0_5 (t : Fin cfg0.N) : (ms0_5 t).IsWhole := hstage0_5 ((cfg0.slots t 5).cast nbuf0_5)
/-- Window 6's staging buffer at a point. -/
abbrev ms0_6 (t : Fin cfg0.N) : Memref sig .tc .vmem S512x32 .f32 := win0_6.stage (cfg0.slots t 6)
/-- Window 6's staging buffer is whole. -/
abbrev hs0_6 (t : Fin cfg0.N) : (ms0_6 t).IsWhole := hstage0_6 ((cfg0.slots t 6).cast nbuf0_6)
/-- The scratch buffer of the turned scales. -/
abbrev scM0_0 : Memref sig .tc .vmem S32x512 .f32 := Memref.whole cc0_scratch0
/-- The accumulator's scratch buffer. -/
abbrev scM0_1 : Memref sig .tc .vmem S512x512 .f32 := Memref.whole cc0_scratch1
/-- The scratch `arg9` the kernel carries between points, as a view: what it holds is stated through it. -/
abbrev VS0_0 : View sig .tc .vmem S32x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Point.lean ====
/- What one grid point of the kernel computes, as functions of what it loads: the scales and their inverses of a block of
   activations, the fp8 codes group by group, and the accumulator as a list of read-modify-writes of row windows. -/
module

public import proofs.«01_k».proof.Proof.Setup
public import Idealize.ShloMosaic.Lib.WritesUnit
public import Idealize.ShloMosaic.Lib.WindowSumWrites

@[expose] public section

set_option maxRecDepth 16384

noncomputable section

namespace Cert.KernelIdeal.Hand

open Cert.KernelIdeal.Gen
open Idealize.ShloMosaic Idealize.ShloMosaic.TcCoe

variable {F : FTy → Type} [FloatOps F]

/-! ## Where the loads and stores of a point lie -/

/-- The offset of group `g`'s columns in a block of activations or codes. -/
def gOff (g : Fin 32) : Fin 2 → ℕ := ![0, 128 * g.val]

/-- A group's columns lie inside the block. -/
theorem gOff_inb (g : Fin 32) : ∀ a, gOff g a + S512x128.size a ≤ S512x4096.size a := by
  revert g; decide

/-- The offset of the weights' rows of grid column `i 1` and group `g`'s columns. -/
def wOff (i : grid0.Coords) (g : Fin 32) : Fin 2 → ℕ :=
  ![(Scalar.indexCast (Scalar.muli (BitVec.ofNat 32 (i 1).val) 512#32)).toNat, 128 * g.val]

/-- The row offset of the weights, in closed form. -/
theorem wOff_row : ∀ n : Fin 9, (Scalar.indexCast (Scalar.muli (BitVec.ofNat 32 n.val) 512#32)).toNat = 512 * n.val := by
  decide

/-- The weights' rows of a grid column lie inside the weights. -/
theorem wOff_inb (i : grid0.Coords) (g : Fin 32) : ∀ a, wOff i g a + S512x128.size a ≤ S4608x4096.size a := by
  have h := wOff_row (i 1)
  have hi := (i 1).isLt
  have hg := g.isLt
  intro a
  match a with
  | ⟨0, _⟩ =>
    show (Scalar.indexCast (Scalar.muli (BitVec.ofNat 32 (i 1).val) 512#32)).toNat + 512 ≤ 4608
    have : (i 1).val < 9 := hi
    omega
  | ⟨1, _⟩ => show 128 * g.val + 128 ≤ 4096; omega

/-- The offset of the weight scale of the `b`-th block of 128 rows of grid column `i 1`, group `g`. -/
def qOff (i : grid0.Coords) (b : Fin 4) (g : Fin 32) : Fin 2 → ℕ :=
  ![(Scalar.indexCast (Scalar.addi (Scalar.muli (BitVec.ofNat 32 (i 1).val) 4#32) (BitVec.ofNat 32 b.val))).toNat, g.val]

/-- The row offset of a weight scale, in closed form. -/
theorem qOff_row : ∀ (n : Fin 9) (b : Fin 4),
    (Scalar.indexCast (Scalar.addi (Scalar.muli (BitVec.ofNat 32 n.val) 4#32) (BitVec.ofNat 32 b.val))).toNat
      = 4 * n.val + b.val := by
  decide

/-- The weight scales of a grid column lie inside the table. -/
theorem qOff_inb (i : grid0.Coords) (b : Fin 4) (g : Fin 32) : ∀ a, qOff i b g a + S1x1.size a ≤ S36x32.size a := by
  have h := qOff_row (i 1) b
  have hb := b.isLt
  have hg := g.isLt
  intro a
  match a with
  | ⟨0, _⟩ =>
    show (Scalar.indexCast (Scalar.addi (Scalar.muli (BitVec.ofNat 32 (i 1).val) 4#32) (BitVec.ofNat 32 b.val))).toNat + 1 ≤ 36
    have : (i 1).val < 9 := (i 1).isLt
    omega
  | ⟨1, _⟩ => show g.val + 1 ≤ 32; omega

/-- The offset of group `g`'s row of the turned scales. -/
def sOff (g : Fin 32) : Fin 2 → ℕ := ![g.val, 0]

/-- A row of the turned scales lies inside them. -/
theorem sOff_inb (g : Fin 32) : ∀ a, sOff g a + S1x512.size a ≤ S32x512.size a := by
  revert g; decide

/-- The offset of the `b`-th window of 128 rows of the accumulator. -/
def rOff (b : Fin 4) : Fin 2 → ℕ := ![128 * b.val, 0]

/-- A window of rows lies inside the accumulator. -/
theorem rOff_inb (b : Fin 4) : ∀ a, rOff b a + S128x512.size a ≤ S512x512.size a := by
  revert b; decide

/-- A window of rows of a product of two blocks. -/
theorem rSlices (b : Fin 4) : S512x512.Slices ![128 * b.val, 0] S128x512 := by
  revert b; decide

/-- One column of the table of inverse scales. -/
theorem cSlices (g : Fin 32) : S512x32.Slices ![0, g.val] S512x1 := by
  revert g; decide

/-! ## The quantiser -/

section Quantise

variable (X : Fin 32 → Vec F S512x128 .bf16)

/-- The greatest absolute values of the groups, over 448. -/
def vOf : FVec F S512x32 .f32 :=
  mulf (concatenate S512x32 1
      [⟨S512x1, k0_pay3 (X 0)⟩, ⟨S512x1, k0_pay3 (X 1)⟩, ⟨S512x1, k0_pay3 (X 2)⟩, ⟨S512x1, k0_pay3 (X 3)⟩,
       ⟨S512x1, k0_pay3 (X 4)⟩, ⟨S512x1, k0_pay3 (X 5)⟩, ⟨S512x1, k0_pay3 (X 6)⟩, ⟨S512x1, k0_pay3 (X 7)⟩,
       ⟨S512x1, k0_pay3 (X 8)⟩, ⟨S512x1, k0_pay3 (X 9)⟩, ⟨S512x1, k0_pay3 (X 10)⟩, ⟨S512x1, k0_pay3 (X 11)⟩,
       ⟨S512x1, k0_pay3 (X 12)⟩, ⟨S512x1, k0_pay3 (X 13)⟩, ⟨S512x1, k0_pay3 (X 14)⟩, ⟨S512x1, k0_pay3 (X 15)⟩,
       ⟨S512x1, k0_pay3 (X 16)⟩, ⟨S512x1, k0_pay3 (X 17)⟩, ⟨S512x1, k0_pay3 (X 18)⟩, ⟨S512x1, k0_pay3 (X 19)⟩,
       ⟨S512x1, k0_pay3 (X 20)⟩, ⟨S512x1, k0_pay3 (X 21)⟩, ⟨S512x1, k0_pay3 (X 22)⟩, ⟨S512x1, k0_pay3 (X 23)⟩,
       ⟨S512x1, k0_pay3 (X 24)⟩, ⟨S512x1, k0_pay3 (X 25)⟩, ⟨S512x1, k0_pay3 (X 26)⟩, ⟨S512x1, k0_pay3 (X 27)⟩,
       ⟨S512x1, k0_pay3 (X 28)⟩, ⟨S512x1, k0_pay3 (X 29)⟩, ⟨S512x1, k0_pay3 (X 30)⟩, ⟨S512x1, k0_pay3 (X 31)⟩]
      concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x32_d1)
    (broadcast S512x32 (FloatOps.ofBits .f32 0x3B124925#32))

/-- The ladder's start: `v` where it is at least one, `v * 2 ^ 126` elsewhere. -/
def yOf (v : FVec F S512x32 .f32) : FVec F S512x32 .f32 :=
  select (cmpf .oge v (broadcast S512x32 (FloatOps.ofBits .f32 0x3F800000#32))) v
    (mulf v (broadcast S512x32 (FloatOps.ofBits .f32 0x7E800000#32)))

/-- The table of scales, from `v`. -/
def scaleOf (v : FVec F S512x32 .f32) : FVec F S512x32 .f32 :=
  k0_pay47 v (k0_pay41 v (yOf v) (FloatOps.ofBits .f32 0x3F800000#32)) (k0_pay42 (yOf v)) (k0_pay43 (yOf v)) k0_pay44

/-- The table of inverse scales, from `v`. -/
def invOf (v : FVec F S512x32 .f32) : FVec F S512x32 .f32 :=
  k0_pay48 v (k0_pay41 v (yOf v) (FloatOps.ofBits .f32 0x3F800000#32)) (k0_pay42 (yOf v)) (k0_pay43 (yOf v)) k0_pay44

/-- The codes of group `g`: its activations times the inverse scales' column, clamped, as fp8. -/
def codeOf (inv : FVec F S512x32 .f32) (g : Fin 32) (x : Vec F S512x128 .bf16) : FVec F S512x128 .fp8e4m3 :=
  truncf .fp8e4m3 (minimumf (broadcast S512x128 (FloatOps.ofBits .f32 0x43E00000#32))
    (maximumf (broadcast S512x128 (FloatOps.ofBits .f32 0xC3E00000#32))
      (mulf (extf .f32 (shapeCast S512x128 x shapeCasts_S512x128_S512x128 : FVec F S512x128 .bf16) bitsLt_bf16_f32)
        (broadcastTo S512x128 (extractStridedSlice S512x1 ![0, g.val] inv (cSlices g)) broadcasts_S512x1_S512x128))))
    bitsLt_fp8e4m3_f32

/-- The stores of the codes, newest first. -/
def codePieces : List (View.Piece (Elt F) S512x4096 .fp8e4m3) :=
  View.tilePieces (Val := Elt F) (s := S512x4096) S512x128.size gOff gOff_inb
    (fun g => codeOf (invOf (vOf X)) g (X g)) 32 (Nat.le_refl 32)

end Quantise

/-! ## The accumulator -/

section Acc

variable (W C : Fin 32 → Vec F S512x128 .fp8e4m3) (S : Fin 32 → Vec F S1x512 .f32) (Q : Fin 4 → Fin 32 → F .f32)

/-- A window of rows of one group's product, times the token's scale times the weights' scale. -/
def term (b : Fin 4) (g : Fin 32) : FVec F S128x512 .f32 :=
  mulf (extractStridedSlice S128x512 ![128 * b.val, 0] (k0_pay89 (W g) (C g)) (rSlices b))
    (broadcastTo S128x512 (mulf (S g) (broadcast S1x512 (Q b g))) broadcasts_S1x512_S128x512)

/-- The even group of the `p`-th pair. -/
def ev (p : Fin 16) : Fin 32 := ⟨2 * p.val, by omega⟩

/-- The odd group of the `p`-th pair. -/
def od (p : Fin 16) : Fin 32 := ⟨2 * p.val + 1, by omega⟩

/-- What one pair of groups contributes to a window of rows. -/
def pairTerm (b : Fin 4) (p : Fin 16) : FVec F S128x512 .f32 :=
  addf (term W C S Q b (ev p)) (term W C S Q b (od p))

/-- The first pair's stores, newest first. -/
def bottomPieces : List (View.Piece (Elt F) S512x512 .f32) :=
  View.tilePieces (Val := Elt F) (s := S512x512) S128x512.size rOff rOff_inb
    (fun b => shapeCast S128x512 (pairTerm W C S Q b 0) shapeCasts_S128x512_S128x512) 4 (Nat.le_refl 4)

/-- The window of rows of the `n`-th read-modify-write. -/
def blk (n : Fin 60) : Fin 4 := ⟨n.val % 4, by omega⟩

/-- The pair of groups of the `n`-th read-modify-write. -/
def pr (n : Fin 60) : Fin 16 := ⟨n.val / 4 + 1, by omega⟩

/-- What the `n`-th read-modify-write stores over the window it loaded. -/
def rmw (n : Fin 60) (acc : Vec F S128x512 .f32) : Vec F S128x512 .f32 :=
  shapeCast S128x512 (addf acc (pairTerm W C S Q (blk n) (pr n))) shapeCasts_S128x512_S128x512

/-- All the stores of the accumulator, newest first. -/
def accPieces {sig' : RefSig} {κ : Kind} {sp : Space} (v : View sig' κ sp S512x512 .f32) :
    List (View.Piece (Elt F) S512x512 .f32) :=
  View.accPieces (Val := Elt F) v v.junk (bottomPieces W C S Q) S128x512.size (fun n => rOff (blk n))
    (fun n => rOff_inb (blk n)) (rmw W C S Q) 60 (Nat.le_refl 60)

end Acc

end Cert.KernelIdeal.Hand

end
-- ==== Proof.RunA.lean ====
/- The kernel body at a point that quantises, run: what it leaves in its results' blocks and the turned scales, as pieces. -/
module

public import proofs.«01_k».proof.Proof.Setup

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 5336000 in
/-- The body at a point that quantises: on whole staging memrefs, the operands' at their contents, everything else at
    anything, it runs and leaves the result's block, the codes', the scales' and the turned scales' written with the pieces
    `LY`, `LC`, `LS`, `LT` the run finds. -/
noncomputable def kernelRunA (c : Dev nD) (i : grid0.Coords) (arg2 : Memref sig .tc .smem S36x32 .f32) (harg2 : arg2.IsWhole) (arg3 : Memref sig .tc .vmem S512x4096 .bf16) (harg3 : arg3.IsWhole) (arg4 : Memref sig .tc .vmem S4608x4096 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S512x4096 .fp8e4m3) (harg7 : arg7.IsWhole) (arg8 : Memref sig .tc .vmem S512x32 .f32) (harg8 : arg8.IsWhole) (arg9 : Memref sig .tc .vmem S32x512 .f32) (harg9 : arg9.IsWhole) (arg10 : Memref sig .tc .vmem S512x512 .f32) (harg10 : arg10.IsWhole) (hc0 : cond0_0 i)
    (x0 : Vec F S36x32 .f32) (x1 : Vec F S512x4096 .bf16) (x2 : Vec F S4608x4096 .fp8e4m3) (x3 : Vec F S1x512 .f32) :
    Σ' (LY : List (View.Piece (Elt F) S512x512 .bf16)) (LC : List (View.Piece (Elt F) S512x4096 .fp8e4m3)) (LS : List (View.Piece (Elt F) S512x32 .f32)),
    { LT : List (View.Piece (Elt F) S32x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LY) ∗ (∃ f, arg7.view.loc (c : Thread nD τ) ↦[arg7.view.set]{fullShare} arg7.view.writes (Elt F) f LC) ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LT) ∗ (∃ d, owns (c : Thread nD τ) arg10 fullShare d)) -∗ K ⟨⟩))
          ⊢ wp frame (wpE (defs₀ (F := F)) Variants.none c none) E (cc0_fp8_blockwise_linear i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_fp8_blockwise_linear_eq_skeleton]; unfold cc0_fp8_blockwise_linear_skel
    simp only [k0_part67_eq_skeleton, k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _, _; isplitr; swap; · iexact HS1
    ipureintro; rfl

end Cert.KernelIdeal.Hand

end
-- ==== Proof.AccA.lean ====
/- What the run of a point that quantises stores, as the functions of Point.lean: the scales, the turned scales, the
   codes group by group, and the accumulator's read-modify-writes. -/
module

public import proofs.«01_k».proof.Proof.Point
public import proofs.«01_k».proof.Proof.RunA

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- The groups of a block of activations, as the point loads them. -/
abbrev xLoads (arg3 : Memref sig .tc .vmem S512x4096 .bf16) (harg3 : arg3.IsWhole) (x1 : Vec F S512x4096 .bf16) :
    Fin 32 → Vec F S512x128 .bf16 := fun g =>
  View.readAt (Elt F) arg3.view (Rect.unit (s := S512x4096) (gOff g) S512x128.size (gOff_inb g)).toLoadRect (harg3.unread x1)

/-- The stored scales. -/
theorem scaleA_eq (c : Dev nD) (arg3 : Memref sig .tc .vmem S512x4096 .bf16) (harg3 : arg3.IsWhole) (x1 : Vec F S512x4096 .bf16) :
    kernelRunA.sl.r_34 c arg3 harg3 x1 = scaleOf (vOf (xLoads arg3 harg3 x1)) := by
  sl_kernel_rfl

/-- The stored turned scales. -/
theorem turnedA_eq (c : Dev nD) (arg3 : Memref sig .tc .vmem S512x4096 .bf16) (harg3 : arg3.IsWhole) (x1 : Vec F S512x4096 .bf16) :
    kernelRunA.sl.HS0_1 c arg3 harg3 x1
      = [⟨Rect.unit (s := S32x512) ![0, 0] S32x512.size inb_S32x512_S32x512_0_0, k0_pay49 (scaleOf (vOf (xLoads arg3 harg3 x1)))⟩] := by
  sl_kernel_rfl

/-- The stored codes. -/
theorem codeA_eq (c : Dev nD) (arg3 : Memref sig .tc .vmem S512x4096 .bf16) (harg3 : arg3.IsWhole) (x1 : Vec F S512x4096 .bf16) :
    kernelRunA.sl.H5_32 c arg3 harg3 x1 = codePieces (xLoads arg3 harg3 x1) := by
  sl_kernel_rfl

/-- The accumulator's stores at a point that quantises are `accPieces` of what the point loads. -/
theorem accA_eq (c : Dev nD) (i : grid0.Coords) (arg2 : Memref sig .tc .smem S36x32 .f32) (harg2 : arg2.IsWhole)
    (arg3 : Memref sig .tc .vmem S512x4096 .bf16) (harg3 : arg3.IsWhole)
    (arg4 : Memref sig .tc .vmem S4608x4096 .fp8e4m3) (harg4 : arg4.IsWhole)
    (arg7 : Memref sig .tc .vmem S512x4096 .fp8e4m3) (arg9 : Memref sig .tc .vmem S32x512 .f32)
    (arg10 : Memref sig .tc .vmem S512x512 .f32)
    (x0 : Vec F S36x32 .f32) (x1 : Vec F S512x4096 .bf16) (x2 : Vec F S4608x4096 .fp8e4m3) :
    kernelRunA.sl.HS1_64 c i arg2 harg2 arg3 harg3 arg4 harg4 arg7 arg9 arg10 x0 x1 x2
      = accPieces
          (fun g => View.readAt (Elt F) arg4.view (Rect.unit (s := S4608x4096) (wOff i g) S512x128.size (wOff_inb i g)).toLoadRect (harg4.unread x2))
          (fun g => arg7.view.readCov (kernelRunA.sl.H5_32 c arg3 harg3 x1) (Rect.unit (s := S512x4096) (gOff g) S512x128.size (gOff_inb g)).toLoadRect)
          (fun g => arg9.view.readCov (kernelRunA.sl.HS0_1 c arg3 harg3 x1) (Rect.unit (s := S32x512) (sOff g) S1x512.size (sOff_inb g)).toLoadRect)
          (fun b g => View.readAt (Elt F) arg2.view (Rect.unit (s := S36x32) (qOff i b g) S1x1.size (qOff_inb i b g)).toLoadRect (harg2.unread x0)
            (Shape.Idx.first (s := S1x1) (by decide)))
          arg10.view := by
  sl_kernel_rfl

end Cert.KernelIdeal.Hand

end
-- ==== Proof.RunB.lean ====
/- The kernel body at a point that does not quantise, run: what it leaves in the result's block, as pieces. -/
module

public import proofs.«01_k».proof.Proof.Setup

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4528000 in
/-- The body at a point that does not quantise: on whole staging memrefs, the operands' at their contents, the codes' at
    `xc`, the turned scales at `xs0`, the result's and the accumulator at anything, it runs and leaves all of them as they
    were but the result's, written with the pieces `LY` the run finds, and the accumulator. -/
noncomputable def kernelRunB (c : Dev nD) (i : grid0.Coords) (arg2 : Memref sig .tc .smem S36x32 .f32) (harg2 : arg2.IsWhole) (arg3 : Memref sig .tc .vmem S512x4096 .bf16) (harg3 : arg3.IsWhole) (arg4 : Memref sig .tc .vmem S4608x4096 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S512x4096 .fp8e4m3) (harg7 : arg7.IsWhole) (arg8 : Memref sig .tc .vmem S512x32 .f32) (harg8 : arg8.IsWhole) (arg9 : Memref sig .tc .vmem S32x512 .f32) (harg9 : arg9.IsWhole) (arg10 : Memref sig .tc .vmem S512x512 .f32) (harg10 : arg10.IsWhole) (hc0 : ¬cond0_0 i)
    (x0 : Vec F S36x32 .f32) (x1 : Vec F S512x4096 .bf16) (x2 : Vec F S4608x4096 .fp8e4m3) (x3 : Vec F S1x512 .f32) (xc : Vec F S512x4096 .fp8e4m3) (xs0 : Vec F S32x512 .f32) :
    { LY : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xc ∗ owns (c : Thread nD τ) arg9 fullShare xs0 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LY) ∗ owns (c : Thread nD τ) arg7 fullShare xc ∗ owns (c : Thread nD τ) arg9 fullShare xs0 ∗ (∃ d, owns (c : Thread nD τ) arg10 fullShare d)) -∗ K ⟨⟩))
          ⊢ wp frame (wpE (defs₀ (F := F)) Variants.none c none) E (cc0_fp8_blockwise_linear i arg2 harg2 arg3 harg3 arg4 harg4 arg5 harg5 arg6 harg6 arg7 harg7 arg8 harg8 arg9 harg9 arg10 harg10) K } := by
  refine ⟨?_, fun E K => ?run⟩
  case run =>
    simp only [cc0_fp8_blockwise_linear_eq_skeleton]; unfold cc0_fp8_blockwise_linear_skel
    simp only [k0_part67_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]
    · iexists _; isplitr; · ipureintro; exact harg9.read_unread _
      iexact HS0
    iexists _, _; isplitr; swap; · iexact HS1
    ipureintro; rfl

end Cert.KernelIdeal.Hand

end
-- ==== Proof.AccB.lean ====
/- The stores the run of a point that does not quantise finds in the accumulator, as the list of Point.lean. -/
module

public import proofs.«01_k».proof.Proof.Point
public import proofs.«01_k».proof.Proof.RunB

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- The accumulator's stores at a point that does not quantise are `accPieces` of what the point loads. -/
theorem accB_eq (c : Dev nD) (i : grid0.Coords) (arg2 : Memref sig .tc .smem S36x32 .f32) (harg2 : arg2.IsWhole)
    (arg4 : Memref sig .tc .vmem S4608x4096 .fp8e4m3) (harg4 : arg4.IsWhole)
    (arg7 : Memref sig .tc .vmem S512x4096 .fp8e4m3) (harg7 : arg7.IsWhole)
    (arg9 : Memref sig .tc .vmem S32x512 .f32) (harg9 : arg9.IsWhole) (arg10 : Memref sig .tc .vmem S512x512 .f32)
    (x0 : Vec F S36x32 .f32) (x2 : Vec F S4608x4096 .fp8e4m3) (xc : Vec F S512x4096 .fp8e4m3) (xs0 : Vec F S32x512 .f32) :
    kernelRunB.sl.HS1_64 c i arg2 harg2 arg4 harg4 arg7 harg7 arg9 harg9 arg10 x0 x2 xc xs0
      = accPieces
          (fun g => View.readAt (Elt F) arg4.view (Rect.unit (s := S4608x4096) (wOff i g) S512x128.size (wOff_inb i g)).toLoadRect (harg4.unread x2))
          (fun g => View.readAt (Elt F) arg7.view (Rect.unit (s := S512x4096) (gOff g) S512x128.size (gOff_inb g)).toLoadRect (harg7.unread xc))
          (fun g => View.readAt (Elt F) arg9.view (Rect.unit (s := S32x512) (sOff g) S1x512.size (sOff_inb g)).toLoadRect (harg9.unread xs0))
          (fun b g => View.readAt (Elt F) arg2.view (Rect.unit (s := S36x32) (qOff i b g) S1x1.size (qOff_inb i b g)).toLoadRect (harg2.unread x0)
            (Shape.Idx.first (s := S1x1) (by decide)))
          arg10.view := by
  sl_kernel_rfl

end Cert.KernelIdeal.Hand

end
-- ==== Proof.Leaves.lean ====
/- What one grid point leaves in the results' blocks and in the carried scratch, as functions of the contents of the
   operands' blocks, whichever of the two cases the point is in. -/
module

public import proofs.«01_k».proof.Proof.AccA
public import proofs.«01_k».proof.Proof.AccB
public import Idealize.ShloMosaic.Lib.WholeRead
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- Group `g`'s columns of a block. -/
abbrev gRect (g : Fin 32) : Rect S512x4096 := Rect.unit (s := S512x4096) (gOff g) S512x128.size (gOff_inb g)
/-- The weights' rows of grid column `i 1`, group `g`'s columns. -/
abbrev wRect (i : grid0.Coords) (g : Fin 32) : Rect S4608x4096 :=
  Rect.unit (s := S4608x4096) (wOff i g) S512x128.size (wOff_inb i g)
/-- Group `g`'s row of the turned scales. -/
abbrev sRect (g : Fin 32) : Rect S32x512 := Rect.unit (s := S32x512) (sOff g) S1x512.size (sOff_inb g)
/-- One weight scale. -/
abbrev qRect (i : grid0.Coords) (b : Fin 4) (g : Fin 32) : Rect S36x32 :=
  Rect.unit (s := S36x32) (qOff i b g) S1x1.size (qOff_inb i b g)

/-- The scales of a block of activations. -/
def scalesOf (x1 : Vec F S512x4096 .bf16) : Vec F S512x32 .f32 :=
  scaleOf (vOf fun g => View.ld x1 (gRect g))

/-- The scales of a block of activations, turned. -/
def turnedOf (x1 : Vec F S512x4096 .bf16) : Vec F S32x512 .f32 := k0_pay49 (scalesOf x1)

/-- The codes of a block of activations. -/
def codesOf (x1 : Vec F S512x4096 .bf16) : Vec F S512x4096 .fp8e4m3 :=
  View.canon (codePieces fun g => View.ld x1 (gRect g))

/-- The accumulator after a point, from the weight scales, the weights, the codes and the turned scales. -/
def accOf (v : View sig .tc .vmem S512x512 .f32) (i : grid0.Coords) (x0 : Vec F S36x32 .f32) (x2 : Vec F S4608x4096 .fp8e4m3)
    (xc : Vec F S512x4096 .fp8e4m3) (xs : Vec F S32x512 .f32) : Vec F S512x512 .f32 :=
  View.canon (accPieces (fun g => View.ld x2 (wRect i g)) (fun g => View.ld xc (gRect g)) (fun g => View.ld xs (sRect g))
    (fun b g => x0 ((qRect i b g).emb (Shape.Idx.first (s := S1x1) (by decide)))) v)

/-- The result's block after a point. -/
def resOf (v : View sig .tc .vmem S512x512 .f32) (i : grid0.Coords) (x0 : Vec F S36x32 .f32) (x2 : Vec F S4608x4096 .fp8e4m3)
    (x3 : Vec F S1x512 .f32) (xc : Vec F S512x4096 .fp8e4m3) (xs : Vec F S32x512 .f32) : Vec F S512x512 .bf16 :=
  k0_pay2 (accOf v i x0 x2 xc xs) x3

section Loads

variable {Val : EltTy → Type} {κ : Kind} {sp : Space} {s : Shape} {e : EltTy}

/-- A load of a whole memref held at the contents that read `X` is the load of `X`. -/
theorem readAt_unread_eq (m : Memref sig κ sp s e) (h : m.IsWhole) (X : s.Idx → Val e) (r : Rect s) :
    View.readAt Val m.view r.toLoadRect (h.unread X) = View.ld X r :=
  funext fun x => h.readAt_unread X r.toLoadRect x

/-- A load of what a list of stores left over junk is the load of the list's contents. -/
theorem readCov_eq_ld [∀ e, Nonempty (Val e)] (v : View sig κ sp s e) (L : List (View.Piece Val s e)) (r : Rect s) :
    v.readCov L r.toLoadRect = View.ld (View.canon L) r :=
  View.readCov_eq_canon' v L r.toLoadRect

end Loads

/-- The groups loaded from the block of activations. -/
theorem xLoads_eq (arg3 : Memref sig .tc .vmem S512x4096 .bf16) (harg3 : arg3.IsWhole) (x1 : Vec F S512x4096 .bf16) :
    xLoads arg3 harg3 x1 = fun g => View.ld x1 (gRect g) :=
  funext fun g => readAt_unread_eq arg3 harg3 x1 (gRect g)

section Cases

variable (c : Dev nD) (i : grid0.Coords) (arg2 : Memref sig .tc .smem S36x32 .f32) (harg2 : arg2.IsWhole) (arg3 : Memref sig .tc .vmem S512x4096 .bf16) (harg3 : arg3.IsWhole) (arg4 : Memref sig .tc .vmem S4608x4096 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S512x4096 .fp8e4m3) (harg7 : arg7.IsWhole) (arg8 : Memref sig .tc .vmem S512x32 .f32) (harg8 : arg8.IsWhole) (arg9 : Memref sig .tc .vmem S32x512 .f32) (harg9 : arg9.IsWhole) (arg10 : Memref sig .tc .vmem S512x512 .f32) (harg10 : arg10.IsWhole)
  (x0 : Vec F S36x32 .f32) (x1 : Vec F S512x4096 .bf16) (x2 : Vec F S4608x4096 .fp8e4m3) (x3 : Vec F S1x512 .f32)

section A

variable (hc0 : cond0_0 i)

/-- The codes' stores at a point that quantises. -/
theorem runA_codes :
    (kernelRunA c i arg2 harg2 arg3 harg3 arg4 harg4 arg5 harg5 arg6 harg6 arg7 harg7 arg8 harg8 arg9 harg9 arg10 harg10 hc0 x0 x1 x2 x3).2.1
      = codePieces fun g => View.ld x1 (gRect g) := by
  refine Eq.trans (show _ = kernelRunA.sl.H5_32 c arg3 harg3 x1 from rfl) ?_
  rw [codeA_eq, xLoads_eq]

/-- The turned scales' store at a point that quantises. -/
theorem runA_turned :
    (kernelRunA c i arg2 harg2 arg3 harg3 arg4 harg4 arg5 harg5 arg6 harg6 arg7 harg7 arg8 harg8 arg9 harg9 arg10 harg10 hc0 x0 x1 x2 x3).2.2.2.1
      = [⟨Rect.unit (s := S32x512) ![0, 0] S32x512.size inb_S32x512_S32x512_0_0, turnedOf x1⟩] := by
  refine Eq.trans (show _ = kernelRunA.sl.HS0_1 c arg3 harg3 x1 from rfl) ?_
  rw [turnedA_eq, xLoads_eq]; rfl

/-- The scales' store at a point that quantises. -/
theorem runA_scales :
    (kernelRunA c i arg2 harg2 arg3 harg3 arg4 harg4 arg5 harg5 arg6 harg6 arg7 harg7 arg8 harg8 arg9 harg9 arg10 harg10 hc0 x0 x1 x2 x3).2.2.1
      = [⟨Rect.unit (s := S512x32) ![0, 0] S512x32.size inb_S512x32_S512x32_0_0, scalesOf x1⟩] := by
  refine Eq.trans (show _ = [⟨Rect.unit (s := S512x32) ![0, 0] S512x32.size inb_S512x32_S512x32_0_0,
    kernelRunA.sl.r_34 c arg3 harg3 x1⟩] from rfl) ?_
  rw [scaleA_eq, xLoads_eq]; rfl

/-- The result's store at a point that quantises. -/
theorem runA_res :
    (kernelRunA c i arg2 harg2 arg3 harg3 arg4 harg4 arg5 harg5 arg6 harg6 arg7 harg7 arg8 harg8 arg9 harg9 arg10 harg10 hc0 x0 x1 x2 x3).1
      = [⟨Rect.unit (s := S512x512) ![0, 0] S512x512.size inb_S512x512_S512x512_0_0,
          resOf arg10.view i x0 x2 x3 (codesOf x1) (turnedOf x1)⟩] := by
  refine Eq.trans (show _ = [⟨Rect.unit (s := S512x512) ![0, 0] S512x512.size inb_S512x512_S512x512_0_0,
    k0_pay2 (arg10.view.readCov (kernelRunA.sl.HS1_64 c i arg2 harg2 arg3 harg3 arg4 harg4 arg7 arg9 arg10 x0 x1 x2)
        (Rect.unit (s := S512x512) ![0, 0] S512x512.size inb_S512x512_S512x512_0_0).toLoadRect)
      (View.readAt (Elt F) arg5.view (Rect.unit (s := S1x512) ![0, 0] S1x512.size inb_S1x512_S1x512_0_0).toLoadRect (harg5.unread x3))⟩] from rfl) ?_
  have hz : (![0, 0] : Fin 2 → ℕ) = fun _ => 0 := by decide
  rw [readAt_unread_eq, readCov_eq_ld, View.ld_unit_zero (S := S512x512) hz, View.ld_unit_zero (S := S1x512) hz, accA_eq]
  simp only [readCov_eq_ld, readAt_unread_eq, codeA_eq, turnedA_eq, xLoads_eq]
  rw [View.canon_unit_zero (S := S32x512) hz]
  rfl

end A

section B

variable (hc0 : ¬cond0_0 i) (xc : Vec F S512x4096 .fp8e4m3) (xs0 : Vec F S32x512 .f32)

/-- The result's store at a point that does not quantise. -/
theorem runB_res :
    (kernelRunB c i arg2 harg2 arg3 harg3 arg4 harg4 arg5 harg5 arg6 harg6 arg7 harg7 arg8 harg8 arg9 harg9 arg10 harg10 hc0 x0 x1 x2 x3 xc xs0).1
      = [⟨Rect.unit (s := S512x512) ![0, 0] S512x512.size inb_S512x512_S512x512_0_0,
          resOf arg10.view i x0 x2 x3 xc xs0⟩] := by
  refine Eq.trans (show _ = [⟨Rect.unit (s := S512x512) ![0, 0] S512x512.size inb_S512x512_S512x512_0_0,
    k0_pay2 (arg10.view.readCov (kernelRunB.sl.HS1_64 c i arg2 harg2 arg4 harg4 arg7 harg7 arg9 harg9 arg10 x0 x2 xc xs0)
        (Rect.unit (s := S512x512) ![0, 0] S512x512.size inb_S512x512_S512x512_0_0).toLoadRect)
      (View.readAt (Elt F) arg5.view (Rect.unit (s := S1x512) ![0, 0] S1x512.size inb_S1x512_S1x512_0_0).toLoadRect (harg5.unread x3))⟩] from rfl) ?_
  have hz : (![0, 0] : Fin 2 → ℕ) = fun _ => 0 := by decide
  rw [readAt_unread_eq, readCov_eq_ld, View.ld_unit_zero (S := S512x512) hz, View.ld_unit_zero (S := S1x512) hz, accB_eq]
  simp only [readAt_unread_eq]
  rfl

end B

end Cases

end Cert.KernelIdeal.Hand

end
-- ==== Proof.Body.lean ====
/- The frame of the kernel with its results named: after every point each result's block and the carried scratch hold what
   Leaves.lean says of the point's operands; the body's obligation from the two runs; the whole run of the kernel. -/
module

public import proofs.«01_k».proof.Proof.Leaves
public import Idealize.ShloMosaic.Lib.Claim
public import Idealize.ShloMosaic.Lib.Pipeline.TableIdle
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block of activations moves with the grid's rows only -/

/-- The block index of the activations at a point. -/
theorem index1 : ∀ t : Fin cfg0.N, (cfg0.win 1).index t = ![t.val / 9, 0] := by
  decide +kernel

/-- Two points of one row of the grid see the same block of activations. -/
theorem iblk1_congr (c : Dev nD) (t t' : Fin cfg0.N) (h : t.val / 9 = t'.val / 9) : iblk m c 1 t = iblk m c 1 t' := by
  have hi : (cfg0.win 1).index t = (cfg0.win 1).index t' := by rw [index1, index1, h]
  funext y
  unfold iblk
  blk_simp
  congr 1
  funext a
  apply Fin.ext
  refine (Pipeline.Window.rect_emb_val win0_1 t y a rfl).trans (Eq.trans ?_ (Pipeline.Window.rect_emb_val win0_1 t' y a rfl).symm)
  rw [show win0_1.index t a = win0_1.index t' a from congrFun hi a]

/-- A point that is not the first of its row sees the block of the point before. -/
theorem iblk1_prev (c : Dev nD) (t : Fin cfg0.N) (h : ¬t.val % 9 = 0) :
    iblk m c 1 ⟨t.val - 1, by omega⟩ = iblk m c 1 t :=
  iblk1_congr m c _ _ (by show (t.val - 1) / 9 = t.val / 9; omega)

/-! ## The carried scratch -/

/-- The region's invariant before position `n`: the turned scales hold those of the block the point before saw. -/
def PhiS (c : Dev nD) : (n : ℕ) → n ≤ cfg0.N → sProp 𝕄
  | 0, _ => Pipeline.ΦA spec0 c
  | n + 1, hn => iprop(iprop(owns (c : Thread nD τ) scM0_0 fullShare (turnedOf (iblk m c 1 ⟨n, hn⟩)) ∗ (∃ d, owns (c : Thread nD τ) scM0_1 fullShare d)) ∗ (∃ r, prngReg c r))

/-- Before the first point. -/
theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop(owns (c : Thread nD τ) scM0_0 fullShare (turnedOf (iblk m c 1 ⟨n, hn⟩)) ∗ (∃ d, owns (c : Thread nD τ) scM0_1 fullShare d)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare (turnedOf (iblk m c 1 ⟨n - 1, by omega⟩)) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: each operand's buffer keeps its block; the results' hold what the
    point computes of the operands' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => resOf scM0_1.view (grid0.coords t) (iblk m c 0 t) (iblk m c 2 t) (iblk m c 3 t) (codesOf (iblk m c 1 t)) (turnedOf (iblk m c 1 t))
    | ⟨5, _⟩ => codesOf (iblk m c 1 t)
    | ⟨6, _⟩ => scalesOf (iblk m c 1 t)
  Φ t := PhiS m c t.val (Nat.le_of_lt_succ t.isLt)
  q _ := fullShare
  owed _ := 0

/-- The windows' arrays are the region's entry contents. -/
theorem A_eq (c : Dev nD) (w : Fin cfg0.W) : (dats m 0 c).A w = V m c (Pipeline.arrRef spec0 w) := by
  dsimp only [dats]

/-- The invariant before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- After a point window 0 holds the weight scales' block. -/
theorem after0_0 (c : Dev nD) (t : Fin cfg0.N) : (dats m 0 c).after 0 t = iblk m c 0 t := by dsimp only [dats]
/-- After a point window 1 holds the activations' block. -/
theorem after0_1 (c : Dev nD) (t : Fin cfg0.N) : (dats m 0 c).after 1 t = iblk m c 1 t := by dsimp only [dats]
/-- After a point window 2 holds the weights' block. -/
theorem after0_2 (c : Dev nD) (t : Fin cfg0.N) : (dats m 0 c).after 2 t = iblk m c 2 t := by dsimp only [dats]
/-- After a point window 3 holds the bias's block. -/
theorem after0_3 (c : Dev nD) (t : Fin cfg0.N) : (dats m 0 c).after 3 t = iblk m c 3 t := by dsimp only [dats]
/-- After a point window 4 holds the point's block of the result. -/
theorem after0_4 (c : Dev nD) (t : Fin cfg0.N) : (dats m 0 c).after 4 t = resOf scM0_1.view (grid0.coords t) (iblk m c 0 t) (iblk m c 2 t) (iblk m c 3 t) (codesOf (iblk m c 1 t)) (turnedOf (iblk m c 1 t)) := by dsimp only [dats]
/-- After a point window 5 holds the row's codes. -/
theorem after0_5 (c : Dev nD) (t : Fin cfg0.N) : (dats m 0 c).after 5 t = codesOf (iblk m c 1 t) := by dsimp only [dats]
/-- After a point window 6 holds the row's scales. -/
theorem after0_6 (c : Dev nD) (t : Fin cfg0.N) : (dats m 0 c).after 6 t = scalesOf (iblk m c 1 t) := by dsimp only [dats]

/-- Before a point window 0 holds the weight scales' block. -/
theorem before0_0 (c : Dev nD) (t : Fin cfg0.N) (d) : (dats m 0 c).before 0 t d = iblk m c 0 t :=
  before0_0_of m (dats m 0 c) (A_eq m c 0) (after0_0 m c) t d
/-- Before a point window 1 holds the activations' block. -/
theorem before0_1 (c : Dev nD) (t : Fin cfg0.N) (d) : (dats m 0 c).before 1 t d = iblk m c 1 t :=
  before0_1_of m (dats m 0 c) (A_eq m c 1) (after0_1 m c) t d
/-- Before a point window 2 holds the weights' block. -/
theorem before0_2 (c : Dev nD) (t : Fin cfg0.N) (d) : (dats m 0 c).before 2 t d = iblk m c 2 t :=
  before0_2_of m (dats m 0 c) (A_eq m c 2) (after0_2 m c) t d
/-- Before a point window 3 holds the bias's block. -/
theorem before0_3 (c : Dev nD) (t : Fin cfg0.N) (d) : (dats m 0 c).before 3 t d = iblk m c 3 t :=
  before0_3_of m (dats m 0 c) (A_eq m c 3) (after0_3 m c) t d

/-- The codes' and the scales' buffers are idle exactly at the points that do not quantise. -/
theorem idle56 : ∀ t : Fin cfg0.N, (cfg0.idle 5 (grid0.coords t) = true ↔ ¬t.val % 9 = 0) ∧ (cfg0.idle 6 (grid0.coords t) = true ↔ ¬t.val % 9 = 0) := by
  decide +kernel

/-- They are fresh only at the first points of the grid's rows. -/
theorem fresh56 : ∀ t : Fin cfg0.N, ¬t.val % 9 = 0 → cfg0.fresh 5 t.val = false ∧ cfg0.fresh 6 t.val = false := by
  decide +kernel

/-- A point that does not quantise finds the codes the row's first point left. -/
theorem before0_5 (c : Dev nD) (t : Fin cfg0.N) (h : ¬t.val % 9 = 0) (d) : (dats m 0 c).before 5 t d = codesOf (iblk m c 1 t) := by
  rw [(dats m 0 c).before_out_traj 5 rfl (fun _ _ => rfl)
    (fun t _ hi _ => by rw [after0_5, after0_5, iblk1_prev m c t ((idle56 t).1.mp hi)]) t.val t rfl d,
    (fresh56 t h).1, if_neg Bool.false_ne_true, after0_5, iblk1_prev m c t h]

/-- A point that does not quantise finds the scales the row's first point left. -/
theorem before0_6 (c : Dev nD) (t : Fin cfg0.N) (h : ¬t.val % 9 = 0) (d) : (dats m 0 c).before 6 t d = scalesOf (iblk m c 1 t) := by
  rw [(dats m 0 c).before_out_traj 6 rfl (fun _ _ => rfl)
    (fun t _ hi _ => by rw [after0_6, after0_6, iblk1_prev m c t ((idle56 t).2.mp hi)]) t.val t rfl d,
    (fresh56 t h).2, if_neg Bool.false_ne_true, after0_6, iblk1_prev m c t h]

/-- A result's buffer that holds what it should after the point is what the obligation asks for, idle or not. -/
theorem leaves_of_after (c : Dev nD) (w : Fin cfg0.W) (t : Fin cfg0.N)
    (h : cfg0.idle w (cfg0.grid.coords t) = true → ∃ d, (dats m 0 c).before w t d = (dats m 0 c).after w t) :
    owns (c : Thread nD τ) ((cfg0.win w).stage (cfg0.slots t w)) fullShare ((dats m 0 c).after w t) ⊢ (dats m 0 c).leavesExact w t := by
  unfold Dat.leavesExact
  cases hi : cfg0.idle w (cfg0.grid.coords t) with
  | false => exact Idealize.SL.BI.Entails.refl _
  | true =>
    cases hf : (cfg0.win w).flush t with
    | true => exact Idealize.SL.BI.Entails.refl _
    | false =>
      obtain ⟨d, hd⟩ := h hi
      iintro H
      iexists d
      rw [hd]
      iexact H

/-- Contents made of one store of the whole buffer are owned at what was stored. -/
theorem owns_whole_store {sp : Space} {s : Shape} {e : EltTy} (c : Dev nD) (M : Memref sig .tc sp s e) (f : M.view.ty.Contents (Elt F))
    (L : List (View.Piece (Elt F) s e)) (X : s.Idx → Elt F e) (hL : ∀ y, ∃ p ∈ L, y ∈ p.1.set) (hX : View.canon L = X) :
    (M.view.loc (c : Thread nD τ) ↦[M.view.set]{fullShare} M.view.writes (Elt F) f L : sProp 𝕄)
      ⊢ owns (c : Thread nD τ) M fullShare X := by
  iintro H
  unfold owns
  iexists _
  isplitr
  swap
  · iexact H
  ipureintro
  rw [View.read_writes_eq_canon _ _ _ hL, hX]

/-- The codes' stores cover the block. -/
theorem codes_cover (X : Fin 32 → Vec F S512x128 .bf16) (y : S512x4096.Idx) : ∃ p ∈ codePieces X, y ∈ p.1.set :=
  View.cover_of_tiledL (codePieces X) S512x128.size (by sl_kernel_rfl) y

/-- One store of a whole rank-2 buffer covers it and is its contents. -/
theorem one_cover {s : Shape} {e : EltTy} (off : Fin s.rank → ℕ) (h : off = fun _ => 0) (inb : ∀ a, off a + s.size a ≤ s.size a)
    (w : s.Idx → Elt F e) (y : s.Idx) : ∃ p ∈ [(⟨Rect.unit off s.size inb, w⟩ : View.Piece (Elt F) s e)], y ∈ p.1.set :=
  ⟨_, List.mem_singleton_self _, View.mem_set_unit_zero h inb y⟩

/-- The zero offsets. -/
theorem zero2 : (![0, 0] : Fin 2 → ℕ) = fun _ => 0 := by decide

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 6400000 in
/-- The body at a point that quantises. -/
theorem sound_bodyA (c : Dev nD) (t : Fin cfg0.N) (h0 : t.val % 9 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  by_cases hz : t.val = 0
  · rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t) _ _ _ _ _ _ _ _ _ _ _ _ _ _ _ _ _ _ ((hcond0_0 t).mpr h0) (iblk m c 0 t) (iblk m c 1 t) (iblk m c 2 t) (iblk m c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, HS1⟩
    isplitl [HS0 HS1 Hg]
    · isplitl [HS0 HS1]
      · isplitl [HS0]
        · rw [runA_turned]
          iapply owns_whole_store c scM0_0 _ _ (turnedOf (iblk m c 1 t)) (one_cover _ zero2 _ _) (View.canon_unit_zero (S := S32x512) zero2 _ _)
          iexact HS0
        iexact HS1
      iexact Hg
    isplitl [Ho]; · iexact Ho
    isplitl [H0]; · iexact H0
    isplitl [H1]; · iexact H1
    isplitl [H2]; · iexact H2
    isplitl [H3]; · iexact H3
    isplitl [H4]
    · iapply leaves_of_after m c 4 t (fun h => absurd h Bool.false_ne_true)
      rw [runA_res, after0_4]
      iapply owns_whole_store c (ms0_4 t) _ _ _ (one_cover _ zero2 _ _) (View.canon_unit_zero (S := S512x512) zero2 _ _)
      iexact H4
    isplitl [H5]
    · iapply leaves_of_after m c 5 t (fun h => absurd h0 ((idle56 t).1.mp h))
      rw [runA_codes, after0_5]
      iapply owns_whole_store c (ms0_5 t) _ _ (codesOf (iblk m c 1 t)) (codes_cover _) rfl
      iexact H5
    iapply leaves_of_after m c 6 t (fun h => absurd h0 ((idle56 t).2.mp h))
    rw [runA_scales, after0_6]
    iapply owns_whole_store c (ms0_6 t) _ _ _ (one_cover _ zero2 _ _) (View.canon_unit_zero (S := S512x32) zero2 _ _)
    iexact H6
  · rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t) _ _ _ _ _ _ _ _ _ _ _ _ _ _ _ _ _ _ ((hcond0_0 t).mpr h0) (iblk m c 0 t) (iblk m c 1 t) (iblk m c 2 t) (iblk m c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexists _; iexact HS0
    isplitl [HS1]; · iexact HS1
    iintro ⟨H0, H1, H2, H3, ⟨%e4, H4⟩, ⟨%e5, H5⟩, ⟨%e6, H6⟩, ⟨%es0, HS0⟩, HS1⟩
    isplitl [HS0 HS1 Hg]
    · isplitl [HS0 HS1]
      · isplitl [HS0]
        · rw [runA_turned]
          iapply owns_whole_store c scM0_0 _ _ (turnedOf (iblk m c 1 t)) (one_cover _ zero2 _ _) (View.canon_unit_zero (S := S32x512) zero2 _ _)
          iexact HS0
        iexact HS1
      iexact Hg
    isplitl [Ho]; · iexact Ho
    isplitl [H0]; · iexact H0
    isplitl [H1]; · iexact H1
    isplitl [H2]; · iexact H2
    isplitl [H3]; · iexact H3
    isplitl [H4]
    · iapply leaves_of_after m c 4 t (fun h => absurd h Bool.false_ne_true)
      rw [runA_res, after0_4]
      iapply owns_whole_store c (ms0_4 t) _ _ _ (one_cover _ zero2 _ _) (View.canon_unit_zero (S := S512x512) zero2 _ _)
      iexact H4
    isplitl [H5]
    · iapply leaves_of_after m c 5 t (fun h => absurd h0 ((idle56 t).1.mp h))
      rw [runA_codes, after0_5]
      iapply owns_whole_store c (ms0_5 t) _ _ (codesOf (iblk m c 1 t)) (codes_cover _) rfl
      iexact H5
    iapply leaves_of_after m c 6 t (fun h => absurd h0 ((idle56 t).2.mp h))
    rw [runA_scales, after0_6]
    iapply owns_whole_store c (ms0_6 t) _ _ _ (one_cover _ zero2 _ _) (View.canon_unit_zero (S := S512x32) zero2 _ _)
    iexact H6

set_option maxHeartbeats 6400000 in
/-- The body at a point that does not quantise. -/
theorem sound_bodyB (c : Dev nD) (t : Fin cfg0.N) (h0 : ¬t.val % 9 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_5 m c t h0, before0_6 m c t h0]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  have hz : t.val ≠ 0 := fun h => h0 (by rw [h])
  rw [PhiS_castSucc m c t, PhiS_pos m c _ _ hz, iblk1_prev m c t h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (codesOf (iblk m c 1 t)) (turnedOf (iblk m c 1 t))).2 Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨H0, H1, H2, H3, ⟨%e4, H4⟩, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]
  · iapply leaves_of_after m c 4 t (fun h => absurd h Bool.false_ne_true)
    rw [runB_res, after0_4]
    iapply owns_whole_store c (ms0_4 t) _ _ _ (one_cover _ zero2 _ _) (View.canon_unit_zero (S := S512x512) zero2 _ _)
    iexact H4
  isplitl [H5]
  · iapply leaves_of_after m c 5 t (fun _ => ⟨d5, by rw [before0_5 m c t h0, after0_5]⟩)
    rw [after0_5]
    iexact H5
  iapply leaves_of_after m c 6 t (fun _ => ⟨d6, by rw [before0_6 m c t h0, after0_6]⟩)
  rw [after0_6]
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 9 = 0
  · exact sound_bodyA m c t h0
  · exact sound_bodyB m c t h0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 216 := N_0; omega)

/-! ## The run and the frame -/

-- `θ_run_frame_track`'s implicit arguments are found by unifying its conclusion with this one, which takes unfolding plain
-- definitions in a metavariable's type
set_option backward.isDefEq.respectTransparency.types false in
/-- From any memory with zero counters the whole kernel terminates without fault; at the end every window's array holds what the
    proof data `dats` say, every other buffer its contents on entry, and every semaphore counter is zero. -/
theorem run_main_quiescent : θ_run defs (onTc (τ := τ) (main (F := F))) (s₀ m ρ) (fun r => (Pipeline.FramePost cfgs (dats m) (0 : Fin 1) (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- From any memory with zero counters the whole kernel terminates without fault, and at the end every window's array, the three
    results' among them, holds what the proof data `dats` say, and every other buffer its contents on entry. -/
theorem run_main : θ_run defs (onTc (τ := τ) (main (F := F))) (s₀ m ρ) (Pipeline.FramePost cfgs (dats m) (0 : Fin 1) (V m)) :=
  (θ_run defs _ _).mono (fun _ h => h.1) (run_main_quiescent m ρ)

/-- The kernel leaves its four arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the kernel terminates without fault, leaves its four arguments unchanged, and ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Printed.lean ====
/- The frame of the kernel as printed. The idealized program is the printed one, operation by operation, so the frame proved of
   the one for any reading of the floats is the other's. -/
module

public import proofs.«01_k».proof.Defs
public import proofs.«01_k».proof.Proof.Gen.Kernel
public import proofs.«01_k».proof.Proof.Body

@[expose] public section

set_option maxRecDepth 16384

noncomputable section

namespace Cert.Kernel.Hand

open Idealize.ShloMosaic Idealize.ShloMosaic.TcCoe Idealize.SL.Sem

variable {F : FTy → Type} [FloatOps F]

/-- The two programs' bodies are the same function. -/
theorem body_eq : @Cert.Kernel.cc0_fp8_blockwise_linear F _ _ = @Cert.KernelIdeal.cc0_fp8_blockwise_linear F _ _ := rfl

/-- The two programs' tables of bodies are the same. -/
theorem bodies_eq : @Cert.Kernel.defs₀ F _ _ = @Cert.KernelIdeal.defs₀ F _ _ := by
  unfold Cert.Kernel.defs₀ Cert.KernelIdeal.defs₀
  refine congrArg (Defs.onTc (τ := Cert.KernelIdeal.τ) (nD := Cert.KernelIdeal.nD) (sig := Cert.KernelIdeal.sig)
    (Λ := Cert.KernelIdeal.Λ₀) (Val := Elt F)) ?_
  funext l a
  obtain ⟨l, hl⟩ := l
  cases l with
  | zero =>
    obtain ⟨t, s⟩ := a
    show Cert.Kernel.cc0_fp8_blockwise_linear _ _ _ _ _ _ _ _ _ _ _ _ _ _ _ _ _ _ _ = _
    rw [body_eq]
    rfl
  | succ n => exact absurd hl (by omega)

/-- The two programs' tables of bodies and pipelines are the same. -/
theorem defs_eq : @Cert.Kernel.defs F _ _ = @Cert.KernelIdeal.defs F _ _ := by
  unfold Cert.Kernel.defs Cert.KernelIdeal.defs
  rw [bodies_eq]
  rfl

/-- The two programs' main functions are the same. -/
theorem main_eq : Cert.Kernel.main (F := F) = Cert.KernelIdeal.main (F := F) := rfl

/-- The printed kernel terminates without fault, leaves its four arguments unchanged, and ends with every counter at zero. -/
theorem frame : Cert.quiescent_Kernel := fun m g _ => by
  have h := Cert.KernelIdeal.Hand.frame (F := Bits) m g
  rw [← defs_eq, ← main_eq] at h
  exact h

end Cert.Kernel.Hand

end
-- ==== Proof.Pow2.lean ====
/- Powers of two at the extended reals: what the bit pattern of a power of two denotes, the exponent a ladder of
   comparisons finds, and the least power of two above a value. -/
module

public import Idealize.ShloMosaic.PureOps.Ideal
public import Idealize.ShloMosaic.PureOps.Ideal.Laws

@[expose] public section

set_option maxRecDepth 16384

noncomputable section

namespace Cert.Scale

open Idealize.ShloMosaic

/-! ## Bit patterns -/

/-- The fields of the f32 pattern with exponent field `E` and nothing else set. -/
theorem fields : ∀ E : Fin 255, ((BitVec.ofNat 32 (E.val * 8388608)).extractLsb' 31 1 == 1#1) = false
    ∧ ((BitVec.ofNat 32 (E.val * 8388608)).extractLsb' 23 8).toNat = E.val
    ∧ ((BitVec.ofNat 32 (E.val * 8388608)).extractLsb' 0 23).toNat = 0 := by
  decide +kernel

/-- The f32 pattern of exponent field `E` denotes `2 ^ (E - 127)`. -/
theorem ofBits_pow (E : ℕ) (h1 : 1 ≤ E) (h2 : E ≤ 254) :
    Ideal.ofBits .f32 (BitVec.ofNat 32 (E * 8388608)) = (((2 : ℝ) ^ ((E : ℤ) - 127) : ℝ) : EReal) := by
  obtain ⟨hs, he, hf⟩ := fields ⟨E, by omega⟩
  simp only [Ideal.ofBits, Ideal.ieee]
  rw [show ((8 : ℕ) + 23) = 31 from rfl, hs, he, hf]
  dsimp only
  rw [if_neg (by omega), if_neg (by omega)]
  congr 1
  have : (2 : ℝ) ^ ((E : ℤ) - 127) = 2 ^ (23 : ℤ) * 2 ^ ((E : ℤ) - 127 - 23) := by
    rw [← zpow_add₀ (by norm_num)]; congr 1; ring
  rw [this]
  norm_num

/-- The infinity's pattern. -/
theorem ofBits_top : Ideal.ofBits .f32 0x7F800000#32 = ⊤ := by
  simp [Ideal.ofBits, Ideal.ieee]

/-- The negative infinity's pattern. -/
theorem ofBits_bot : Ideal.ofBits .f32 0xFF800000#32 = ⊥ := by
  simp [Ideal.ofBits, Ideal.ieee]

/-- The float nearest `1 / 448`, as a real number. -/
theorem ofBits_c : Ideal.ofBits .f32 0x3B124925#32 = (((9586981 : ℝ) * (2 : ℝ) ^ (-32 : ℤ) : ℝ) : EReal) := by
  simp [Ideal.ofBits, Ideal.ieee]

/-! ## The ladder -/

/-- One step of the ladder on the value: from `2 ^ k` on, divide by `2 ^ k` (`c`, `d` the patterns of `2 ^ k`, `2 ^ -k`). -/
def stepY (c d : BitVec 32) (y : EReal) : EReal :=
  Scalar.select (FloatOps.cmpf (F := Ideal) (φ := .f32) .oge y (FloatOps.ofBits .f32 c))
    (FloatOps.mulf (F := Ideal) (φ := .f32) y (FloatOps.ofBits .f32 d)) y

/-- The same step on the exponent: from `2 ^ k` on, add `k`. -/
def stepE (c k : BitVec 32) (y : EReal) (e : BitVec 32) : BitVec 32 :=
  Scalar.select (FloatOps.cmpf (F := Ideal) (φ := .f32) .oge y (FloatOps.ofBits .f32 c)) (IntOp.addi e k) e

/-- The ladder's start on the value. -/
def startY (v : EReal) : EReal :=
  Scalar.select (FloatOps.cmpf (F := Ideal) (φ := .f32) .oge v (FloatOps.ofBits .f32 0x3F800000#32)) v
    (FloatOps.mulf (F := Ideal) (φ := .f32) v (FloatOps.ofBits .f32 0x7E800000#32))

/-- The ladder's start on the exponent. -/
def startE (v : EReal) : BitVec 32 :=
  Scalar.select (FloatOps.cmpf (F := Ideal) (φ := .f32) .oge v (FloatOps.ofBits .f32 0x3F800000#32)) 127#32 1#32

/-- The pair (`y`, `e`) stands for `v`: `v = y * 2 ^ (e - 127)`, with `1 ≤ y < 2 ^ B`. -/
def Stands (v : ℝ) (B : ℕ) (y : EReal) (e : BitVec 32) : Prop :=
  ∃ (r : ℝ) (n : ℕ), y = (r : EReal) ∧ e = BitVec.ofNat 32 n ∧ 1 ≤ r ∧ r < 2 ^ B ∧ v = r * 2 ^ ((n : ℤ) - 127) ∧ 1 ≤ n

/-- A comparison of two real numbers, as a bit. -/
theorem cmp_oge (a b : ℝ) : Ideal.cmp .oge (a : EReal) (b : EReal) = BitVec.ofBool (decide (b ≤ a)) := by
  simp [Ideal.cmp]

/-- Selection by a bit made of a proposition. -/
theorem select_ofBool {α : Type} (p : Prop) [Decidable p] (a b : α) :
    Scalar.select (BitVec.ofBool (decide p)) a b = if p then a else b := by
  by_cases h : p <;> simp [Scalar.select, h]

/-- A step keeps what the pair stands for, and lowers the bound. -/
theorem Stands.step {v : ℝ} {B B' : ℕ} {y : EReal} {e : BitVec 32} (h : Stands v B y e) (k : ℕ) (c d : BitVec 32)
    (hk : 1 ≤ k) (hk' : k ≤ 126) (hc : c = BitVec.ofNat 32 ((127 + k) * 8388608)) (hd : d = BitVec.ofNat 32 ((127 - k) * 8388608))
    (h1 : k ≤ B') (h2 : B ≤ B' + k) :
    Stands v B' (stepY c d y) (stepE c (BitVec.ofNat 32 k) y e) := by
  obtain ⟨r, n, rfl, rfl, hr1, hrB, hv, hn⟩ := h
  have ec : Ideal.ofBits .f32 c = (((2 : ℝ) ^ k : ℝ) : EReal) := by
    rw [hc, ofBits_pow _ (by omega) (by omega)]
    congr 1
    rw [← zpow_natCast]; congr 1; push_cast; ring
  have ed : Ideal.ofBits .f32 d = (((2 : ℝ) ^ (-(k : ℤ)) : ℝ) : EReal) := by
    rw [hd, ofBits_pow _ (by omega) (by omega)]
    congr 2
    push_cast [Nat.cast_sub (show k ≤ 127 by omega)]; ring
  have hY : stepY c d (r : EReal) = if (2 : ℝ) ^ k ≤ r then ((r * 2 ^ (-(k : ℤ)) : ℝ) : EReal) else (r : EReal) := by
    show Scalar.select (Ideal.cmp .oge (r : EReal) (Ideal.ofBits .f32 c)) ((r : EReal) * Ideal.ofBits .f32 d) (r : EReal) = _
    rw [ec, ed, cmp_oge, select_ofBool, ← EReal.coe_mul]
  have hE : stepE c (BitVec.ofNat 32 k) (r : EReal) (BitVec.ofNat 32 n)
      = if (2 : ℝ) ^ k ≤ r then BitVec.ofNat 32 (n + k) else BitVec.ofNat 32 n := by
    show Scalar.select (Ideal.cmp .oge (r : EReal) (Ideal.ofBits .f32 c)) (BitVec.ofNat 32 n + BitVec.ofNat 32 k) _ = _
    rw [ec, cmp_oge, select_ofBool, ← BitVec.ofNat_add]
  rw [hY, hE]
  have hpos : (0 : ℝ) < 2 ^ k := by positivity
  have hz : (2 : ℝ) ^ (-(k : ℤ)) = (2 ^ k)⁻¹ := by rw [zpow_neg, zpow_natCast]
  by_cases hle : (2 : ℝ) ^ k ≤ r
  · rw [if_pos hle, if_pos hle]
    refine ⟨_, _, rfl, rfl, ?_, ?_, ?_, by omega⟩
    · rw [hz, ← div_eq_mul_inv, le_div_iff₀ hpos, one_mul]; exact hle
    · rw [hz, ← div_eq_mul_inv, div_lt_iff₀ hpos, ← pow_add]
      exact lt_of_lt_of_le hrB (pow_le_pow_right₀ (by norm_num) h2)
    · rw [hv, mul_assoc, ← zpow_add₀ (by norm_num : (2 : ℝ) ≠ 0)]
      congr 2; push_cast; ring
  · rw [if_neg hle, if_neg hle]
    refine ⟨_, _, rfl, rfl, hr1, ?_, hv, hn⟩
    exact lt_of_lt_of_le (not_le.mp hle) (pow_le_pow_right₀ (by norm_num) h1)

/-- The start stands for the value. -/
theorem Stands.start {v : ℝ} (h1 : (2 : ℝ) ^ (-126 : ℤ) ≤ v) (h2 : v < 2 ^ 120) : Stands v 126 (startY v) (startE v) := by
  have e1 : Ideal.ofBits .f32 0x3F800000#32 = ((1 : ℝ) : EReal) := by
    have := ofBits_pow 127 (by omega) (by omega); simpa using this
  have e2 : Ideal.ofBits .f32 0x7E800000#32 = (((2 : ℝ) ^ (126 : ℤ) : ℝ) : EReal) := by
    have := ofBits_pow 253 (by omega) (by omega)
    rw [show ((253 : ℕ) : ℤ) - 127 = 126 by norm_num] at this
    exact this
  have hY : startY v = if (1 : ℝ) ≤ v then (v : EReal) else ((v * 2 ^ (126 : ℤ) : ℝ) : EReal) := by
    show Scalar.select (Ideal.cmp .oge (v : EReal) (Ideal.ofBits .f32 0x3F800000#32)) (v : EReal)
      ((v : EReal) * Ideal.ofBits .f32 0x7E800000#32) = _
    rw [e1, e2, cmp_oge, select_ofBool, ← EReal.coe_mul]
  have hE : startE v = if (1 : ℝ) ≤ v then BitVec.ofNat 32 127 else BitVec.ofNat 32 1 := by
    show Scalar.select (Ideal.cmp .oge (v : EReal) (Ideal.ofBits .f32 0x3F800000#32)) _ _ = _
    rw [e1, cmp_oge, select_ofBool]
  rw [hY, hE]
  by_cases hle : (1 : ℝ) ≤ v
  · rw [if_pos hle, if_pos hle]
    refine ⟨v, 127, rfl, rfl, hle, ?_, by simp, by omega⟩
    exact lt_of_lt_of_le h2 (pow_le_pow_right₀ (by norm_num) (by omega))
  · rw [if_neg hle, if_neg hle]
    refine ⟨_, 1, rfl, rfl, ?_, ?_, ?_, le_refl _⟩
    · calc (1 : ℝ) = 2 ^ (-126 : ℤ) * 2 ^ (126 : ℤ) := by rw [← zpow_add₀ (by norm_num : (2 : ℝ) ≠ 0)]; norm_num
        _ ≤ v * 2 ^ (126 : ℤ) := by gcongr
    · have : v * (2 : ℝ) ^ (126 : ℤ) < 1 * 2 ^ (126 : ℤ) := by
        have hp : (0 : ℝ) < 2 ^ (126 : ℤ) := by positivity
        exact mul_lt_mul_of_pos_right (not_le.mp hle) hp
      rw [one_mul] at this
      exact_mod_cast this
    · rw [mul_assoc, ← zpow_add₀ (by norm_num : (2 : ℝ) ≠ 0)]; norm_num

/-- The ladder's exponent, its start already taken (`y`, `e`): the steps 64, 32, 16, 8, 4, 2, 1, 1. -/
def rungs (y : EReal) (e : BitVec 32) : BitVec 32 :=
  let y1 := stepY 0x5F800000#32 0x1F800000#32 y
  let e1 := stepE 0x5F800000#32 64#32 y e
  let y2 := stepY 0x4F800000#32 0x2F800000#32 y1
  let e2 := stepE 0x4F800000#32 32#32 y1 e1
  let y3 := stepY 0x47800000#32 0x37800000#32 y2
  let e3 := stepE 0x47800000#32 16#32 y2 e2
  let y4 := stepY 0x43800000#32 0x3B800000#32 y3
  let e4 := stepE 0x43800000#32 8#32 y3 e3
  let y5 := stepY 0x41800000#32 0x3D800000#32 y4
  let e5 := stepE 0x41800000#32 4#32 y4 e4
  let y6 := stepY 0x40800000#32 0x3E800000#32 y5
  let e6 := stepE 0x40800000#32 2#32 y5 e5
  let y7 := stepY 0x40000000#32 0x3F000000#32 y6
  let e7 := stepE 0x40000000#32 1#32 y6 e6
  stepE 0x40000000#32 1#32 y7 e7

/-- One power of two is twice the one before. -/
theorem two_mul_pow (n : ℕ) : (2 : ℝ) ^ ((n : ℤ) - 126) = 2 * 2 ^ ((n : ℤ) - 127) := by
  rw [← zpow_one_add₀ (by norm_num : (2 : ℝ) ≠ 0), show 1 + ((n : ℤ) - 127) = (n : ℤ) - 126 by ring]

/-- The ladder finds the exponent. -/
theorem rungs_spec {v : ℝ} {y : EReal} {e : BitVec 32} (h : Stands v 126 y e) :
    ∃ n : ℕ, rungs y e = BitVec.ofNat 32 n ∧ 1 ≤ n ∧ (2 : ℝ) ^ ((n : ℤ) - 127) ≤ v ∧ v < 2 ^ ((n : ℤ) - 126) := by
  have h1 : Stands v 64 _ _ := h.step 64 0x5F800000#32 0x1F800000#32 (by omega) (by omega) rfl rfl (by omega) (by omega)
  have h2 : Stands v 32 _ _ := h1.step 32 0x4F800000#32 0x2F800000#32 (by omega) (by omega) rfl rfl (by omega) (by omega)
  have h3 : Stands v 16 _ _ := h2.step 16 0x47800000#32 0x37800000#32 (by omega) (by omega) rfl rfl (by omega) (by omega)
  have h4 : Stands v 8 _ _ := h3.step 8 0x43800000#32 0x3B800000#32 (by omega) (by omega) rfl rfl (by omega) (by omega)
  have h5 : Stands v 4 _ _ := h4.step 4 0x41800000#32 0x3D800000#32 (by omega) (by omega) rfl rfl (by omega) (by omega)
  have h6 : Stands v 2 _ _ := h5.step 2 0x40800000#32 0x3E800000#32 (by omega) (by omega) rfl rfl (by omega) (by omega)
  have h7 : Stands v 1 _ _ := h6.step 1 0x40000000#32 0x3F000000#32 (by omega) (by omega) rfl rfl (by omega) (by omega)
  have h8 : Stands v 1 _ _ := h7.step 1 0x40000000#32 0x3F000000#32 (by omega) (by omega) rfl rfl (by omega) (by omega)
  obtain ⟨r, n, _, he, hr1, hr2, hv, hn⟩ := h8
  have hp : (0 : ℝ) < 2 ^ ((n : ℤ) - 127) := by positivity
  refine ⟨n, he, hn, ?_, ?_⟩
  · rw [hv]; exact le_mul_of_one_le_left hp.le hr1
  · have : (2 : ℝ) ^ ((n : ℤ) - 126) = 2 * 2 ^ ((n : ℤ) - 127) := by
      rw [← zpow_one_add₀ (by norm_num : (2 : ℝ) ≠ 0), show 1 + ((n : ℤ) - 127) = (n : ℤ) - 126 by ring]
    rw [hv, this]
    exact mul_lt_mul_of_pos_right (by simpa using hr2) hp

/-- The word of the exponent, shifted to its place: zero below `2 ^ -126`. -/
def wordOf (v : EReal) : BitVec 32 :=
  IntOp.shli .vector (Scalar.select (FloatOps.cmpf (F := Ideal) (φ := .f32) .olt v (FloatOps.ofBits .f32 0x00800000#32)) 0#32
    (rungs (startY v) (startE v))) 23#32

/-- The scale: the power of two above, one where the word is zero. -/
def scaleBy (v : EReal) : EReal :=
  Ideal.ofBits .f32 (Scalar.select (IntOp.cmpi .eq (wordOf v) 0#32) 1065353216#32 (IntOp.addi (wordOf v) 8388608#32))

/-- The scale's inverse. -/
def invBy (v : EReal) : EReal :=
  Ideal.ofBits .f32 (Scalar.select (IntOp.cmpi .eq (wordOf v) 0#32) 1065353216#32 (IntOp.subi 2122317824#32 (wordOf v)))

/-- The least power of two above `v`, the powers taken from `2 ^ -125` up. -/
def leastAbove (v : EReal) : EReal :=
  (Finset.univ : Finset (Fin 253)).fold min (Ideal.ofBits .f32 0x7F800000#32) fun k =>
    Scalar.select (Ideal.cmp .ogt (Ideal.exp2 ((((BitVec.ofNat 32 k.val).toInt : ℝ) : EReal) - Ideal.ofBits .f32 0x42FA0000#32)) v)
      (Ideal.exp2 ((((BitVec.ofNat 32 k.val).toInt : ℝ) : EReal) - Ideal.ofBits .f32 0x42FA0000#32))
      (Ideal.ofBits .f32 0x7F800000#32)

/-- The reference's scale of a group of absolute maximum `a` and scaled maximum `v`: one if `a` is zero, else the least power of
two above `v`. -/
def scaleRef (a v : EReal) : EReal :=
  Scalar.select (Ideal.cmp .oeq a (Ideal.ofBits .f32 0x00000000#32)) (Ideal.ofBits .f32 0x3F800000#32) (leastAbove v)

/-- The words that occur, by cases on their exponent. -/
theorem words : ∀ n : Fin 248, 1 ≤ n.val → IntOp.shli .vector (BitVec.ofNat 32 n.val) 23#32 = BitVec.ofNat 32 (n.val * 8388608)
    ∧ IntOp.cmpi .eq (BitVec.ofNat 32 (n.val * 8388608)) 0#32 = 0#1
    ∧ IntOp.addi (BitVec.ofNat 32 (n.val * 8388608)) 8388608#32 = BitVec.ofNat 32 ((n.val + 1) * 8388608)
    ∧ IntOp.subi 2122317824#32 (BitVec.ofNat 32 (n.val * 8388608)) = BitVec.ofNat 32 ((253 - n.val) * 8388608) := by
  decide +kernel

/-- A small number read back from its word. -/
theorem toInt_small : ∀ k : Fin 253, (BitVec.ofNat 32 k.val).toInt = (k.val : ℤ) := by
  decide +kernel

/-- The pattern of 125. -/
theorem ofBits_125 : Ideal.ofBits .f32 0x42FA0000#32 = ((125 : ℝ) : EReal) := by
  have e : Ideal.ofBits .f32 0x42FA0000#32 = (((16384000 : ℝ) * (2 : ℝ) ^ (-17 : ℤ) : ℝ) : EReal) := by
    simp [Ideal.ofBits, Ideal.ieee]
  rw [e]
  congr 1
  norm_num

/-- The reference's `k`-th power of two. -/
theorem pow_ref (k : Fin 253) : Ideal.exp2 ((((BitVec.ofNat 32 k.val).toInt : ℝ) : EReal) - Ideal.ofBits .f32 0x42FA0000#32)
    = (((2 : ℝ) ^ ((k.val : ℤ) - 125) : ℝ) : EReal) := by
  rw [ofBits_125, toInt_small, ← EReal.coe_sub, Ideal.exp2_coe]
  congr 1
  show (2 : ℝ) ^ (((k.val : ℤ) : ℝ) - 125) = _
  rw [show (((k.val : ℤ) : ℝ) - 125) = (((k.val : ℤ) - 125 : ℤ) : ℝ) by push_cast; ring, Real.rpow_intCast]

/-- The smallest normal float's pattern is `2 ^ -126`. -/
theorem tiny : Ideal.ofBits .f32 0x00800000#32 = (((2 : ℝ) ^ (-126 : ℤ) : ℝ) : EReal) := by
  have e := ofBits_pow 1 (by omega) (by omega)
  rw [show ((1 : ℕ) : ℤ) - 127 = -126 by norm_num] at e
  exact e

/-- The pattern of one. -/
theorem one : Ideal.ofBits .f32 0x3F800000#32 = 1 := by
  have e := ofBits_pow 127 (by omega) (by omega)
  rw [show ((127 : ℕ) : ℤ) - 127 = 0 by norm_num, zpow_zero] at e
  exact e

/-- The comparison `<` of two real numbers, as a bit. -/
theorem cmp_olt (a b : ℝ) : Ideal.cmp .olt (a : EReal) (b : EReal) = BitVec.ofBool (decide (a < b)) := by
  simp [Ideal.cmp]

/-- The comparison `>` of two real numbers, as a bit. -/
theorem cmp_ogt (a b : ℝ) : Ideal.cmp .ogt (a : EReal) (b : EReal) = BitVec.ofBool (decide (b < a)) := by
  simp [Ideal.cmp]

/-- Below `2 ^ -126` every scale is one. -/
theorem scale_small {v : ℝ} (h : v < (2 : ℝ) ^ (-126 : ℤ)) : scaleBy v = 1 ∧ invBy v = 1 := by
  have hw : wordOf v = 0#32 := by
    show IntOp.shli .vector (Scalar.select (Ideal.cmp .olt (v : EReal) (Ideal.ofBits .f32 0x00800000#32)) 0#32 _) 23#32 = _
    rw [tiny, cmp_olt, select_ofBool, if_pos h]; rfl
  refine ⟨?_, ?_⟩
  · show Ideal.ofBits .f32 _ = 1
    rw [hw]; exact one
  · show Ideal.ofBits .f32 _ = 1
    rw [hw]; exact one

/-- From `2 ^ -126` on, the scale is the power of two above, and the inverse scale its inverse. -/
theorem scale_big {v : ℝ} (h1 : (2 : ℝ) ^ (-126 : ℤ) ≤ v) (h2 : v < 2 ^ 120) :
    ∃ n : ℕ, scaleBy v = (((2 : ℝ) ^ ((n : ℤ) - 126) : ℝ) : EReal) ∧ invBy v = (((2 : ℝ) ^ (126 - (n : ℤ)) : ℝ) : EReal)
      ∧ leastAbove v = (((2 : ℝ) ^ ((n : ℤ) - 126) : ℝ) : EReal) := by
  obtain ⟨n, hn, hn1, hlo, hhi⟩ := rungs_spec (Stands.start h1 h2)
  have hnb : n ≤ 246 := by
    by_contra hc
    have : (2 : ℝ) ^ (120 : ℤ) ≤ 2 ^ ((n : ℤ) - 127) := zpow_le_zpow_right₀ (by norm_num) (by omega)
    have h3 : (2 : ℝ) ^ (120 : ℤ) ≤ v := this.trans hlo
    have h4 : (2 : ℝ) ^ (120 : ℤ) = 2 ^ 120 := by norm_cast
    linarith
  obtain ⟨w1, w2, w3, w4⟩ := words ⟨n, by omega⟩ hn1
  have hw : wordOf v = BitVec.ofNat 32 (n * 8388608) := by
    show IntOp.shli .vector (Scalar.select (Ideal.cmp .olt (v : EReal) (Ideal.ofBits .f32 0x00800000#32)) 0#32 _) 23#32 = _
    rw [tiny, cmp_olt, select_ofBool, if_neg (not_lt.mpr h1), hn]; exact w1
  refine ⟨n, ?_, ?_, ?_⟩
  · unfold scaleBy
    rw [hw, w2, w3]
    show Ideal.ofBits .f32 (BitVec.ofNat 32 ((n + 1) * 8388608)) = _
    rw [ofBits_pow _ (by omega) (by omega), show ((n + 1 : ℕ) : ℤ) - 127 = (n : ℤ) - 126 by push_cast; ring]
  · unfold invBy
    rw [hw, w2, w4]
    show Ideal.ofBits .f32 (BitVec.ofNat 32 ((253 - n) * 8388608)) = _
    rw [ofBits_pow _ (by omega) (by omega), show ((253 - n : ℕ) : ℤ) - 127 = 126 - (n : ℤ) by omega]
  · unfold leastAbove
    simp only [pow_ref, cmp_ogt, select_ofBool, ofBits_top]
    apply le_antisymm
    · rw [Finset.fold_min_le]
      refine Or.inr ⟨⟨n - 1, by omega⟩, Finset.mem_univ _, ?_⟩
      have e : ((n - 1 : ℕ) : ℤ) - 125 = (n : ℤ) - 126 := by omega
      show (if v < (2 : ℝ) ^ (((n - 1 : ℕ) : ℤ) - 125) then (((2 : ℝ) ^ (((n - 1 : ℕ) : ℤ) - 125) : ℝ) : EReal) else ⊤) ≤ _
      rw [e, if_pos hhi]
    · rw [Finset.le_fold_min]
      refine ⟨le_top, fun k _ => ?_⟩
      split_ifs with hk
      · rw [EReal.coe_le_coe_iff]
        apply zpow_le_zpow_right₀ (by norm_num)
        by_contra hc
        have : (2 : ℝ) ^ ((k.val : ℤ) - 125) ≤ 2 ^ ((n : ℤ) - 127) := zpow_le_zpow_right₀ (by norm_num) (by omega)
        linarith
      · exact le_top

/-- The reference's scale of a zero group is one. -/
theorem scaleRef_zero (v : EReal) : scaleRef 0 v = 1 := by
  have hz : Ideal.ofBits .f32 0x00000000#32 = 0 := by simp [Ideal.ofBits, Ideal.ieee]
  have hc : Ideal.cmp .oeq (0 : EReal) 0 = 1#1 := by simp [Ideal.cmp]
  unfold scaleRef
  rw [hz, hc]
  exact one

/-- The reference's scale of any other group is the least power of two above. -/
theorem scaleRef_of_ne {a : EReal} (h : a ≠ 0) (v : EReal) : scaleRef a v = leastAbove v := by
  have hz : Ideal.ofBits .f32 0x00000000#32 = 0 := by simp [Ideal.ofBits, Ideal.ieee]
  have hc : Ideal.cmp .oeq a 0 = 0#1 := by simp [Ideal.cmp, h]
  unfold scaleRef
  rw [hz, hc]
  rfl

/-- The kernel's scale is the reference's, if the absolute maximum is zero exactly where the scaled one is below every normal
float. -/
theorem scaleBy_eq {a : EReal} {v : ℝ} (h2 : v < 2 ^ 120) (ha : a = 0 ↔ v < (2 : ℝ) ^ (-126 : ℤ)) : scaleBy v = scaleRef a v := by
  by_cases h1 : (2 : ℝ) ^ (-126 : ℤ) ≤ v
  · obtain ⟨n, e1, _, e3⟩ := scale_big h1 h2
    rw [scaleRef_of_ne (fun h => absurd (ha.mp h) (not_lt.mpr h1)), e1, e3]
  · rw [ha.mpr (not_le.mp h1), scaleRef_zero]
    exact (scale_small (not_le.mp h1)).1

/-- The kernel's inverse scale is one over the reference's scale, under the same condition. -/
theorem invBy_eq {a : EReal} {v : ℝ} (h2 : v < 2 ^ 120) (ha : a = 0 ↔ v < (2 : ℝ) ^ (-126 : ℤ)) :
    invBy v = Ideal.div 1 (scaleRef a v) := by
  by_cases h1 : (2 : ℝ) ^ (-126 : ℤ) ≤ v
  · obtain ⟨n, _, e2, e3⟩ := scale_big h1 h2
    have hp : (2 : ℝ) ^ ((n : ℤ) - 126) ≠ 0 := by positivity
    rw [scaleRef_of_ne (fun h => absurd (ha.mp h) (not_lt.mpr h1)), e2, e3, Ideal.div, if_neg (by exact_mod_cast hp), one_mul,
      ← EReal.coe_inv]
    congr 1
    rw [← zpow_neg]; congr 1; ring
  · rw [ha.mpr (not_le.mp h1), scaleRef_zero, (scale_small (not_le.mp h1)).2, Ideal.div, if_neg one_ne_zero, one_mul]
    rw [show (1 : EReal) = ((1 : ℝ) : EReal) from rfl, ← EReal.coe_inv, inv_one]

end Cert.Scale

end
-- ==== Proof.Spec.lean ====
/- The quantiser of one group of 128 activations, over the extended reals: the functions both programs are read down to. -/
module

public import proofs.«01_k».proof.Proof.Pow2

@[expose] public section

noncomputable section

namespace Cert.Scale

open Idealize.ShloMosaic

/-- A group's greatest absolute value. -/
def amaxRow (u : Fin 128 → EReal) : EReal :=
  (Finset.univ : Finset (Fin 128)).fold max (Ideal.ofBits .f32 0xFF800000#32) (fun c => max (u c) (-(u c)))

/-- A group's greatest absolute value times the float nearest `1 / 448`. -/
def vRow (u : Fin 128 → EReal) : EReal := amaxRow u * Ideal.ofBits .f32 0x3B124925#32

/-- A value clamped between -448 and 448. -/
def clip (z : EReal) : EReal := min (Ideal.ofBits .f32 0x43E00000#32) (max (Ideal.ofBits .f32 0xC3E00000#32) z)

/-- The place of a group's `c`-th element in a row. -/
def at128 (g : Fin 32) (c : Fin 128) : Fin 4096 := ⟨128 * g.val + c.val, by omega⟩

/-- The group of a place in a row. -/
def grp (k : Fin 4096) : Fin 32 := ⟨k.val / 128, by omega⟩

/-- The place in its group of a place in a row. -/
def inGrp (k : Fin 4096) : Fin 128 := ⟨k.val % 128, by omega⟩

/-- A column is its own group's column at its own place. -/
theorem at128_grp (k : Fin 4096) : at128 (grp k) (inGrp k) = k := by
  apply Fin.ext; show 128 * (k.val / 128) + k.val % 128 = k.val; omega

/-- The group of a group's column is that group. -/
theorem grp_at128 (g : Fin 32) (c : Fin 128) : grp (at128 g c) = g := by
  apply Fin.ext; show (128 * g.val + c.val) / 128 = g.val; omega

/-- The greatest absolute value of group `g` of a row. -/
def amaxAt (u : Fin 4096 → EReal) (g : Fin 32) : EReal := amaxRow fun c => u (at128 g c)

/-- The scaled maximum of group `g` of a row. -/
def vAt (u : Fin 4096 → EReal) (g : Fin 32) : EReal := vRow fun c => u (at128 g c)

/-- A group's absolute maximum is finite, and zero or not so small that its scaled maximum is below every normal float. -/
def Normal (a : EReal) : Prop :=
  a ≤ Ideal.ofBits .f32 0x7F7F0000#32
    ∧ (a = 0 ∨ Ideal.ofBits .f32 0x00800000#32 ≤ a * Ideal.ofBits .f32 0x3B124925#32)

/-- The bound on a finite maximum, as a real number. -/
theorem bound : Ideal.ofBits .f32 0x7F7F0000#32 = (((16711680 : ℝ) * (2 : ℝ) ^ (104 : ℤ) : ℝ) : EReal) := by
  simp [Ideal.ofBits, Ideal.ieee]

/-- Of a normal maximum the scaled maximum is a real number below `2 ^ 120`, and the maximum is zero if and only if the scaled
maximum is below `2 ^ -126`. -/
theorem Normal.real {a : EReal} (h : Normal a) :
    ∃ r : ℝ, a * Ideal.ofBits .f32 0x3B124925#32 = (r : EReal) ∧ r < 2 ^ 120 ∧ (a = 0 ↔ r < (2 : ℝ) ^ (-126 : ℤ)) := by
  obtain ⟨h1, h2⟩ := h
  rw [bound] at h1
  rw [tiny, ofBits_c] at h2
  rw [ofBits_c]
  induction a using EReal.rec with
  | bot =>
    exfalso
    rcases h2 with h2 | h2
    · exact absurd h2 (by simp)
    · rw [EReal.bot_mul_coe_of_pos (by positivity)] at h2
      exact absurd (le_bot_iff.mp h2) (EReal.coe_ne_bot _)
  | top => exact absurd (top_le_iff.mp h1) (EReal.coe_ne_top _)
  | coe m =>
    have h1 := EReal.coe_le_coe_iff.mp h1
    refine ⟨m * (9586981 * (2 : ℝ) ^ (-32 : ℤ)), by rw [← EReal.coe_mul], ?_, ?_⟩
    · have h3 : m * (9586981 * (2 : ℝ) ^ (-32 : ℤ)) ≤ 16711680 * (2 : ℝ) ^ (104 : ℤ) * (9586981 * (2 : ℝ) ^ (-32 : ℤ)) := by gcongr
      refine lt_of_le_of_lt h3 ?_
      norm_num
    · rcases h2 with h2 | h2
      · have hm : m = 0 := EReal.coe_eq_zero.mp h2
        subst hm
        simp only [EReal.coe_zero, zero_mul, true_iff]
        positivity
      · rw [← EReal.coe_mul, EReal.coe_le_coe_iff] at h2
        refine ⟨fun hm => ?_, fun hr => absurd h2 (not_le.mpr hr)⟩
        have hm : m = 0 := EReal.coe_eq_zero.mp hm
        subst hm
        rw [zero_mul]
        positivity

end Cert.Scale

end
-- ==== Proof.Normal.lean ====
/- What the precondition says of one group of activations. -/
module

public import proofs.«01_k».proof.Pre_x_is_normal
public import proofs.«01_k».proof.Proof.Spec
public import Idealize.ShloMosaic.Lib.Decide
public import Idealize.ShloMosaic.Lib.Exec
public import Idealize.ShloMosaic.Lib.Pointwise

@[expose] public section

noncomputable section

namespace Cert.Pre_x_is_normal.Hand

open Idealize.ShloMosaic Cert.Scale

/-- The predicate's side conditions hold. -/
instance facts : Cert.Pre_x_is_normal.Facts where
  bitsLt_bf16_f32 := by decide
  shapeCasts_S4x3072x4096_S4x3072x32x128 := by decide
  reducesTo_S4x3072x32x128_S4x3072x32_d3 := by decide
  h_S_ := by decide
  bcast_S_S4x3072x32 := by decide

open Facts

/-- The groups' absolute maxima, as the predicate computes them. -/
def amaxVec (a0 : FVec Ideal S4x3072x4096 .bf16) : FVec Ideal S4x3072x32 .f32 :=
  Host.reduce FloatOps.maximumf
    (shapeCast S4x3072x32x128 (extf .f32 (Host.absf a0) bitsLt_bf16_f32 : FVec Ideal S4x3072x4096 .f32)
      shapeCasts_S4x3072x4096_S4x3072x32x128 : FVec Ideal S4x3072x32x128 .f32)
    (constant S_ .f32 0xFF800000#32 : FVec Ideal S_ .f32) reducesTo_S4x3072x32x128_S4x3072x32_d3 h_S_

/-- The predicate's absolute maxima, at an index. -/
theorem amaxVec_at (a0 : FVec Ideal S4x3072x4096 .bf16) (b : Fin 4) (s : Fin 3072) (g : Fin 32) :
    amaxVec a0 (ix3 b s g) = amaxRow fun c => a0 (ix3 b s (at128 g c)) := by
  pointwise [amaxVec]
  unfold amaxRow at128
  simp only [Nat.mul_comm]
  rfl

/-- The predicate, as a function of the absolute maxima. -/
def normalVec (v : FVec Ideal S4x3072x32 .f32) : IVec S4x3072x32 1 :=
  andi (cmpf .ole v (broadcastInDim S4x3072x32 ![] bcast_S_S4x3072x32 (constant S_ .f32 0x7F7F0000#32 : FVec Ideal S_ .f32)))
    (ori (cmpf .oeq v (broadcastInDim S4x3072x32 ![] bcast_S_S4x3072x32 (constant S_ .f32 0x00000000#32 : FVec Ideal S_ .f32)))
      (cmpf .oge (mulf v (broadcastInDim S4x3072x32 ![] bcast_S_S4x3072x32 (constant S_ .f32 0x3B124925#32 : FVec Ideal S_ .f32)))
        (broadcastInDim S4x3072x32 ![] bcast_S_S4x3072x32 (constant S_ .f32 0x00800000#32 : FVec Ideal S_ .f32))))

/-- The predicate, at an index. -/
theorem normalVec_at (v : FVec Ideal S4x3072x32 .f32) (j : S4x3072x32.Idx) : normalVec v j
    = (Ideal.cmp .ole (v j) (Ideal.ofBits .f32 0x7F7F0000#32)
      &&& (Ideal.cmp .oeq (v j) (Ideal.ofBits .f32 0x00000000#32)
        ||| Ideal.cmp .oge ((v j : EReal) * Ideal.ofBits .f32 0x3B124925#32 : EReal) (Ideal.ofBits .f32 0x00800000#32))) := rfl

/-- The printed predicate is this function of its absolute maxima. -/
theorem fn_eq (a0 : FVec Ideal S4x3072x4096 .bf16) (a1 : FVec Ideal S4608x4096 .fp8e4m3) (a2 : FVec Ideal S36x32 .f32)
    (a3 : FVec Ideal S4608 .f32) : fn (F := Ideal) a0 a1 a2 a3 = normalVec (amaxVec a0) := rfl

/-- Under the precondition every group's absolute maximum is normal. -/
theorem normal_of_fn (a0 : FVec Ideal S4x3072x4096 .bf16) (a1 : FVec Ideal S4608x4096 .fp8e4m3) (a2 : FVec Ideal S36x32 .f32)
    (a3 : FVec Ideal S4608 .f32) (h : fn (F := Ideal) a0 a1 a2 a3 = fun _ => 1#1) (b : Fin 4) (s : Fin 3072) (g : Fin 32) :
    Normal (amaxRow fun c => a0 (ix3 b s (at128 g c))) := by
  have hj : normalVec (amaxVec a0) (ix3 b s g) = 1#1 := congrFun ((fn_eq a0 a1 a2 a3).symm.trans h) (ix3 b s g)
  rw [normalVec_at, amaxVec_at] at hj
  generalize (amaxRow fun c => a0 (ix3 b s (at128 g c))) = a at hj ⊢
  have hz : Ideal.ofBits .f32 0x00000000#32 = 0 := by simp [Ideal.ofBits, Ideal.ieee]
  rw [hz] at hj
  unfold Normal
  by_cases c1 : a ≤ Ideal.ofBits .f32 0x7F7F0000#32
  · refine ⟨c1, ?_⟩
    by_contra hc
    rw [not_or] at hc
    have e1 : Ideal.cmp .oeq a 0 = 0#1 := by simp [Ideal.cmp, hc.1]
    have e2 : Ideal.cmp .oge (a * Ideal.ofBits .f32 0x3B124925#32) (Ideal.ofBits .f32 0x00800000#32) = 0#1 := by simp [Ideal.cmp, hc.2]
    rw [e1, e2] at hj
    exact absurd hj (by simp)
  · have e : Ideal.cmp .ole a (Ideal.ofBits .f32 0x7F7F0000#32) = 0#1 := by simp [Ideal.cmp, c1]
    rw [e] at hj
    exact absurd hj (by simp)

end Cert.Pre_x_is_normal.Hand

end
-- ==== Proof.KQuant.lean ====
/- The kernel's quantiser read at an index, over the extended reals: its scales, its inverse scales and its codes. -/
module

public import proofs.«01_k».proof.Proof.Leaves
public import proofs.«01_k».proof.Proof.Spec
public import Idealize.ShloMosaic.Lib.Pointwise
public import Idealize.ShloMosaic.Lib.Pipeline.ValueKit

@[expose] public section

set_option maxRecDepth 16384

noncomputable section

namespace Cert.KernelIdeal.Hand

open Cert.KernelIdeal.Gen Cert.Scale
open Idealize.ShloMosaic Idealize.ShloMosaic.TcCoe Idealize.ShloMosaic.Tactic

/-- The ladder's scale, at an index. -/
theorem scaleOf_at (v : FVec Ideal S512x32 .f32) (j : S512x32.Idx) : scaleOf v j = scaleBy (v j) := rfl

/-- The ladder's inverse scale, at an index. -/
theorem invOf_at (v : FVec Ideal S512x32 .f32) (j : S512x32.Idx) : invOf v j = invBy (v j) := rfl

/-- One group's greatest absolute values, at an index. -/
theorem pay3_at (x : Vec Ideal S512x128 .bf16) (p : Fin 512) (z : Fin 1) : k0_pay3 x (ix2 p z)
    = (Finset.univ : Finset (Fin 128)).fold max (Ideal.ofBits .f32 0xFF800000#32) (fun c => max (x (ix2 p c)) (-(x (ix2 p c)))) := by
  pointwise [k0_pay3]
  rfl

/-- A group's load, at an index. -/
theorem ld_gRect {e : EltTy} (x : Vec Ideal S512x4096 e) (g : Fin 32) (p : Fin 512) (c : Fin 128) :
    View.ld x (gRect g) (ix2 p c) = x (ix2 p (at128 g c)) := by
  show x ((gRect g).emb (ix2 p c)) = _
  congr 1
  funext a
  apply Fin.ext
  match a with
  | ⟨0, _⟩ => show 0 + 1 * p.val = p.val; omega
  | ⟨1, _⟩ => show 128 * g.val + 1 * c.val = 128 * g.val + c.val; omega

/-- The scaled maxima, at an index. -/
theorem vOf_at (x : Vec Ideal S512x4096 .bf16) (p : Fin 512) (g : Fin 32) :
    vOf (fun g => View.ld x (gRect g)) (ix2 p g) = vAt (fun k => x (ix2 p k)) g := by
  have h := concatenate_ofFn_apply (t := S512x32) (s₁ := S512x1) (1 : Fin 2) (fun g : Fin 32 => k0_pay3 (View.ld x (gRect g)))
    concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x32_d1
    rfl 1 rfl (ix2 p g) g (Nat.div_one _) (ix2 p 0) (Nat.mod_one _).symm
    (fun b hb => by
      match b with
      | ⟨0, _⟩ => rfl
      | ⟨1, _⟩ => exact absurd rfl hb)
  rw [pay3_at] at h
  have e : (fun c : Fin 128 => max (View.ld x (gRect g) (ix2 p c) : EReal) (-(View.ld x (gRect g) (ix2 p c) : EReal)))
      = fun c => max (x (ix2 p (at128 g c)) : EReal) (-(x (ix2 p (at128 g c)) : EReal)) :=
    funext fun c => congrArg (fun z : EReal => max z (-z)) (ld_gRect x g p c)
  exact congrArg (fun z : EReal => z * Ideal.ofBits .f32 0x3B124925#32)
    (h.trans (congrArg (fun f : Fin 128 → EReal => Finset.univ.fold max (Ideal.ofBits .f32 0xFF800000#32) f) e))

/-- The scales of a block of activations, at an index. -/
theorem scalesOf_at (x : Vec Ideal S512x4096 .bf16) (p : Fin 512) (g : Fin 32) :
    scalesOf x (ix2 p g) = scaleBy (vAt (fun k => x (ix2 p k)) g) := by
  show scaleBy (vOf (fun g => View.ld x (gRect g)) (ix2 p g)) = _
  rw [vOf_at]

/-- The turned scales, at an index. -/
theorem turnedOf_at (x : Vec Ideal S512x4096 .bf16) (p : Fin 512) (g : Fin 32) :
    turnedOf x (ix2 g p) = scaleBy (vAt (fun k => x (ix2 p k)) g) := by
  unfold turnedOf
  pointwise [k0_pay49]
  exact scalesOf_at x p g

/-- One group's codes, at an index. -/
theorem codeOf_at (inv : FVec Ideal S512x32 .f32) (g : Fin 32) (x : Vec Ideal S512x128 .bf16) (p : Fin 512) (c : Fin 128) :
    codeOf inv g x (ix2 p c) = clip (x (ix2 p c) * inv (ix2 p g)) := by
  unfold codeOf
  pointwise
  rfl

/-- Every store of a list of tiles is one of the tiles. -/
theorem mem_tilePieces {Val : EltTy → Type} {s : Shape} {e : EltTy} {NT : ℕ} (tsz : Fin s.rank → ℕ)
    (off : Fin NT → Fin s.rank → ℕ) (inb : ∀ i a, off i a + tsz a ≤ s.size a)
    (P : Fin NT → (⟨s.rank, tsz⟩ : Shape).Idx → Val e) (q : View.Piece Val s e) :
    ∀ (j : ℕ) (hj : j ≤ NT), q ∈ View.tilePieces tsz off inb P j hj → ∃ i : Fin NT, q = ⟨Rect.unit (off i) tsz (inb i), P i⟩
  | 0, _, h => absurd h List.not_mem_nil
  | j + 1, hj, h => by
    rw [View.tilePieces_succ] at h
    rcases List.mem_cons.mp h with h | h
    · exact ⟨_, h⟩
    · exact mem_tilePieces tsz off inb P q j _ h

/-- The codes of a block of activations, at an index. -/
theorem codesOf_at (x : Vec Ideal S512x4096 .bf16) (p : Fin 512) (k : Fin 4096) :
    codesOf x (ix2 p k) = clip (x (ix2 p k) * invBy (vAt (fun k => x (ix2 p k)) (grp k))) := by
  have hcov := View.cover_of_tiledL (codePieces fun g => View.ld x (gRect g)) S512x128.size (by sl_kernel_rfl) (ix2 p k)
  unfold codesOf
  refine View.canon_apply_of_pieces (Val := Elt Ideal) (S := S512x4096) (e := .fp8e4m3) (fun y : S512x4096.Idx =>
    clip (x y * invBy (vAt (fun k => x (ix2 (y 0) k)) (grp (y 1))))) _ (fun q hq z => ?_) (ix2 p k) hcov
  obtain ⟨g, rfl⟩ := mem_tilePieces (Val := Elt Ideal) (s := S512x4096) (e := .fp8e4m3) _ _ _ _ q 32 _ hq
  obtain ⟨r, c, rfl⟩ : ∃ (r : Fin 512) (c : Fin 128), z = ix2 r c := ⟨z 0, z 1, eq_ix2 z⟩
  have he : (gRect g).emb (ix2 r c) = ix2 r (at128 g c) := by
    funext a
    apply Fin.ext
    match a with
    | ⟨0, _⟩ => show 0 + 1 * r.val = r.val; omega
    | ⟨1, _⟩ => show 128 * g.val + 1 * c.val = 128 * g.val + c.val; omega
  have h1 : codeOf (invOf (vOf fun g => View.ld x (gRect g))) g (View.ld x (gRect g)) (ix2 r c)
      = clip (x (ix2 r (at128 g c)) * invBy (vAt (fun k => x (ix2 r k)) g)) := by
    rw [codeOf_at, ld_gRect, invOf_at, vOf_at]
  refine h1.trans ?_
  show _ = clip (x ((gRect g).emb (ix2 r c)) * invBy (vAt (fun k => x (ix2 ((gRect g).emb (ix2 r c) 0) k))
    (grp ((gRect g).emb (ix2 r c) 1))))
  rw [he]
  show _ = clip (x (ix2 r (at128 g c)) * invBy (vAt (fun k => x (ix2 r k)) (grp (at128 g c))))
  rw [grp_at128]

end Cert.KernelIdeal.Hand

end
-- ==== Proof.Sums.lean ====
/- Two sums re-indexed: a run of read-modify-writes over four windows of rows, read at one row; and a sum over pairs. -/
module

public import Idealize.ShloMosaic.Lib.WindowSum
public import Mathlib.Algebra.BigOperators.Fin
public import Mathlib.Data.EReal.Basic

@[expose] public section

namespace Cert.Scale

open Idealize.ShloMosaic.WindowSum

/-- A sum over the groups is the sum over the pairs of groups. -/
theorem sum_pairs {M : Type} [AddCommMonoid M] (f : Fin 32 → M) :
    ∑ p : Fin 16, (f ⟨2 * p.val, by omega⟩ + f ⟨2 * p.val + 1, by omega⟩) = ∑ g : Fin 32, f g := by
  have h : ∑ g : Fin 32, f g = ∑ x : Fin 16 × Fin 2, f (finProdFinEquiv x) :=
    (Equiv.sum_comp (finProdFinEquiv (m := 16) (n := 2)) f).symm
  rw [h, Fintype.sum_prod_type]
  refine Finset.sum_congr rfl fun p _ => ?_
  rw [Fin.sum_univ_two]
  congr 2 <;> apply Fin.ext <;> simp [finProdFinEquiv] <;> omega

/-- Sixty read-modify-writes that go fifteen times over four windows of 128 rows, read at row `r` of window `b`: the first
    contents and the fifteen contributions to that window, as one sum of sixteen. -/
theorem windows_at {M : Type} [AddCommMonoid M] (D : Fin 4 → Fin 16 → Fin 128 → M) (b : Fin 4) (r : Fin 128) :
    D b 0 r + windowSum 128 (fun n : Fin 60 => 128 * (n.val % 4)) Finset.univ
      (fun n p => D ⟨n.val % 4, by omega⟩ ⟨n.val / 4 + 1, by omega⟩ p) (128 * b.val + r.val)
      = ∑ p : Fin 16, D b p r := by
  rw [Fin.sum_univ_succ]
  congr 1
  unfold windowSum
  rw [← Equiv.sum_comp (finProdFinEquiv (m := 15) (n := 4)), Fintype.sum_prod_type]
  refine Finset.sum_congr rfl fun q _ => ?_
  have hv : ∀ b' : Fin 4, (finProdFinEquiv (q, b')).val = b'.val + 4 * q.val := fun _ => rfl
  rw [Finset.sum_eq_single b]
  · have h1 : (finProdFinEquiv (q, b)).val % 4 = b.val := by rw [hv]; omega
    have h2 : (finProdFinEquiv (q, b)).val / 4 = q.val := by rw [hv]; omega
    rw [dif_pos (by dsimp only; rw [h1]; omega)]
    have e1 : (⟨(finProdFinEquiv (q, b)).val % 4, by omega⟩ : Fin 4) = b := Fin.ext h1
    have e2 : (⟨(finProdFinEquiv (q, b)).val / 4 + 1, by omega⟩ : Fin 16) = q.succ :=
      Fin.ext (by rw [Fin.val_succ]; exact congrArg (· + 1) h2)
    have e3 : (⟨128 * b.val + r.val - 128 * ((finProdFinEquiv (q, b)).val % 4), by rw [h1]; omega⟩ : Fin 128) = r :=
      Fin.ext (by show 128 * b.val + r.val - 128 * ((finProdFinEquiv (q, b)).val % 4) = r.val; rw [h1]; omega)
    exact congr (congr (congrArg D e1) e2) e3
  · intro b' _ hb
    have h1 : (finProdFinEquiv (q, b')).val % 4 = b'.val := by rw [hv]; omega
    rw [dif_neg]
    dsimp only
    rw [h1]
    have := fun h : b'.val = b.val => hb (Fin.ext h)
    omega
  · exact fun h => absurd (Finset.mem_univ _) h

end Cert.Scale
-- ==== Proof.KAcc.lean ====
/- The kernel's accumulator and result read at an index, over the extended reals: the sum over the 32 groups of the
   group's product times its two scales. -/
module

public import proofs.«01_k».proof.Proof.KQuant
public import proofs.«01_k».proof.Proof.Sums
public import Idealize.ShloMosaic.Lib.Pointwise
public import Idealize.ShloMosaic.Lib.Pipeline.ValueKit

@[expose] public section

set_option maxRecDepth 16384

noncomputable section

namespace Cert.KernelIdeal.Hand

open Cert.KernelIdeal.Gen Cert.Scale
open Idealize.ShloMosaic Idealize.ShloMosaic.TcCoe Idealize.ShloMosaic.Tactic

/-- A group's product, at an index. -/
theorem pay89_at (w c : Vec Ideal S512x128 .fp8e4m3) (n t : Fin 512) :
    k0_pay89 w c (ix2 n t) = ∑ k : Fin 128, (w (ix2 n k) * c (ix2 t k) : EReal) := by
  pointwise [k0_pay89]

section Acc

variable (W C : Fin 32 → Vec Ideal S512x128 .fp8e4m3) (S : Fin 32 → Vec Ideal S1x512 .f32) (Q : Fin 4 → Fin 32 → Ideal .f32)

/-- The row `r` of the `b`-th window of rows. -/
def rowOf (b : Fin 4) (r : Fin 128) : Fin 512 := ⟨128 * b.val + r.val, by omega⟩

/-- What one group contributes to row `r` of window `b`, column `t`. -/
def termAt (b : Fin 4) (g : Fin 32) (r : Fin 128) (t : Fin 512) : EReal :=
  (∑ k : Fin 128, (W g (ix2 (rowOf b r) k) * C g (ix2 t k) : EReal)) * (S g (ix2 (0 : Fin 1) t) * Q b g)

/-- One group's term of a block of rows, at an index. -/
theorem term_at (b : Fin 4) (g : Fin 32) (r : Fin 128) (t : Fin 512) :
    term W C S Q b g (ix2 r t) = termAt W C S Q b g r t := by
  have h : extractStridedSlice S128x512 ![128 * b.val, 0] (k0_pay89 (W g) (C g)) (rSlices b) (ix2 r t)
      = k0_pay89 (W g) (C g) (ix2 (rowOf b r) t) := by
    apply extractStridedSlice_apply
    intro a
    match a with
    | ⟨0, _⟩ => rfl
    | ⟨1, _⟩ => show t.val = 0 + t.val; omega
  have h2 : broadcastTo S128x512 (mulf (S g) (broadcast S1x512 (Q b g))) broadcasts_S1x512_S128x512 (ix2 r t)
      = (S g (ix2 (0 : Fin 1) t) * Q b g : EReal) := by
    pointwise
  show (extractStridedSlice S128x512 ![128 * b.val, 0] (k0_pay89 (W g) (C g)) (rSlices b) (ix2 r t) : EReal)
    * broadcastTo S128x512 (mulf (S g) (broadcast S1x512 (Q b g))) broadcasts_S1x512_S128x512 (ix2 r t) = _
  rw [h, h2, pay89_at]
  rfl

/-- What one pair of groups contributes, at an index. -/
theorem pairTerm_at (b : Fin 4) (p : Fin 16) (r : Fin 128) (t : Fin 512) :
    pairTerm W C S Q b p (ix2 r t) = (termAt W C S Q b (ev p) r t + termAt W C S Q b (od p) r t : EReal) := by
  show (term W C S Q b (ev p) (ix2 r t) : EReal) + term W C S Q b (od p) (ix2 r t) = _
  rw [term_at, term_at]

/-- The first pair's stores cover the accumulator. -/
theorem bottom_cover (y : S512x512.Idx) : ∃ p ∈ bottomPieces W C S Q, y ∈ p.1.set :=
  View.cover_of_tiledL (bottomPieces W C S Q) S128x512.size (by sl_kernel_rfl) y

/-- The ideal floats add commutatively and associatively. -/
instance : AddCommMonoid (Elt Ideal .f32) := inferInstanceAs (AddCommMonoid EReal)

/-- The accumulator, at an index: the sum over the groups. -/
theorem acc_at (v : View sig .tc .vmem S512x512 .f32) (b : Fin 4) (r : Fin 128) (t : Fin 512) :
    View.canon (accPieces W C S Q v) (ix2 (rowOf b r) t) = ∑ g : Fin 32, termAt W C S Q b g r t := by
  have hcov : ∀ y : S512x512.Idx, ∃ p ∈ accPieces W C S Q v, y ∈ p.1.set := fun y => by
    obtain ⟨p, hp, hy⟩ := bottom_cover W C S Q y
    exact ⟨p, View.mem_accPieces_of_mem_bottom _ _ _ _ _ _ _ hp _ _, hy⟩
  have h := View.read_accPieces (Val := Elt Ideal) (e := .f32) (d := S512x512.size) (NB := 60) (W := 128) v v.junk
    (bottomPieces W C S Q) S128x512.size
    (fun n => rOff (blk n)) (fun n => rOff_inb (blk n)) (rmw W C S Q) (fun n => 128 * (n.val % 4)) (fun _ => rfl) rfl rfl
    (fun n p c => pairTerm W C S Q (blk n) (pr n) (ix2 p c))
    (fun n acc x p c h0 h1 => by
      obtain rfl : x = ix2 p c := funext fun a => match a with
        | ⟨0, _⟩ => Fin.ext h0
        | ⟨1, _⟩ => Fin.ext h1
      unfold rmw
      pointwise)
    (fun R c => if h : R < 512 then pairTerm W C S Q ⟨R / 128, by omega⟩ 0 (ix2 ⟨R % 128, by omega⟩ c) else (0 : EReal))
    (fun y => by
      obtain ⟨R, c, rfl⟩ : ∃ (R : Fin 512) (c : Fin 512), y = ix2 R c := ⟨y 0, y 1, eq_ix2 y⟩
      unfold bottomPieces
      refine (View.read_tilePieces (Val := Elt Ideal) (e := .f32) (s := S512x512) v v.junk S128x512.size rOff rOff_inb _ 4 (Nat.le_refl 4) (ix2 R c)
        ⟨R.val / 128, by omega⟩ (by show R.val / 128 < 4; omega) (ix2 ⟨R.val % 128, by omega⟩ c) (fun a => ?_) (0 : Fin 2) (fun i' hi' => ?_)).trans ?_
      · match a with
        | ⟨0, _⟩ => show R.val = 128 * (R.val / 128) + R.val % 128; omega
        | ⟨1, _⟩ => show c.val = 0 + c.val; omega
      · show R.val < 128 * i'.val ∨ 128 * i'.val + 128 ≤ R.val
        have : i'.val ≠ R.val / 128 := fun h => hi' (Fin.ext h)
        omega
      · refine Eq.trans ?_ (dif_pos R.isLt).symm
        pointwise)
    60 (Nat.le_refl 60) (ix2 (rowOf b r) t)
  rw [WindowSum.windowAcc_all] at h
  have hR : (rowOf b r).val / 128 = b.val ∧ (rowOf b r).val % 128 = r.val := by
    constructor <;> simp only [rowOf] <;> omega
  have h2 := windows_at (M := EReal) (fun b p r => pairTerm W C S Q b p (ix2 r t)) b r
  rw [← congrFun (View.read_writes_eq_canon v v.junk (accPieces W C S Q v) hcov)]
  refine h.trans (Eq.trans ?_ (h2.trans ?_))
  · refine congrArg (fun z : EReal => z + _) ?_
    refine (dif_pos (rowOf b r).isLt).trans ?_
    have e1 : (⟨(rowOf b r).val / 128, by omega⟩ : Fin 4) = b := Fin.ext hR.1
    have e2 : (⟨(rowOf b r).val % 128, by omega⟩ : Fin 128) = r := Fin.ext hR.2
    exact congr (congrArg (fun b => pairTerm W C S Q b 0) e1) (congrArg (fun r : Fin 128 => ix2 r t) e2)
  · simp only [pairTerm_at]
    exact sum_pairs (fun g => termAt W C S Q b g r t)

end Acc

/-- The result's block, at an index: the accumulator turned, plus the bias. -/
theorem pay2_at (acc : Vec Ideal S512x512 .f32) (bias : Vec Ideal S1x512 .f32) (t n : Fin 512) :
    k0_pay2 acc bias (ix2 t n) = (acc (ix2 n t) + bias (ix2 (0 : Fin 1) n) : EReal) := by
  pointwise [k0_pay2]

/-- The result's block after a point, at an index: over the groups, the product of the group's codes and weights times the
    two scales, plus the bias. -/
theorem resOf_at (v : View sig .tc .vmem S512x512 .f32) (i : grid0.Coords) (x0 : Vec Ideal S36x32 .f32)
    (x2 : Vec Ideal S4608x4096 .fp8e4m3) (x3 : Vec Ideal S1x512 .f32) (xc : Vec Ideal S512x4096 .fp8e4m3)
    (xs : Vec Ideal S32x512 .f32) (t n : Fin 512) :
    resOf v i x0 x2 x3 xc xs (ix2 t n) = ((∑ g : Fin 32,
      (∑ c : Fin 128, (x2 (ix2 ⟨512 * (i 1).val + n.val, by have : (i 1).val < 9 := (i 1).isLt; omega⟩ (at128 g c))
          * xc (ix2 t (at128 g c)) : EReal))
        * (xs (ix2 g t) * x0 (ix2 ⟨4 * (i 1).val + n.val / 128, by have : (i 1).val < 9 := (i 1).isLt; omega⟩ g)))
      + x3 (ix2 (0 : Fin 1) n) : EReal) := by
  unfold resOf accOf
  rw [pay2_at]
  obtain ⟨b, r, rfl⟩ : ∃ (b : Fin 4) (r : Fin 128), n = rowOf b r :=
    ⟨⟨n.val / 128, by omega⟩, ⟨n.val % 128, by omega⟩, Fin.ext (by simp only [rowOf]; omega)⟩
  rw [acc_at]
  have hi : (i 1).val < 9 := (i 1).isLt
  refine congrArg (fun z : EReal => z + _) (Finset.sum_congr rfl fun g _ => ?_)
  unfold termAt
  have hw : ∀ c : Fin 128, View.ld x2 (wRect i g) (ix2 (rowOf b r) c)
      = x2 (ix2 ⟨512 * (i 1).val + (rowOf b r).val, by omega⟩ (at128 g c)) := fun c => by
    show x2 ((wRect i g).emb _) = _
    congr 1
    funext a
    apply Fin.ext
    match a with
    | ⟨0, _⟩ =>
      show (Scalar.indexCast (Scalar.muli (BitVec.ofNat 32 (i 1).val) 512#32)).toNat + 1 * (rowOf b r).val = 512 * (i 1).val + (rowOf b r).val
      rw [wOff_row (i 1)]; omega
    | ⟨1, _⟩ => show 128 * g.val + 1 * c.val = 128 * g.val + c.val; omega
  have hs : View.ld xs (sRect g) (ix2 (0 : Fin 1) t) = xs (ix2 g t) := by
    show xs ((sRect g).emb _) = _
    congr 1
    funext a
    apply Fin.ext
    match a with
    | ⟨0, _⟩ => show g.val + 1 * 0 = g.val; omega
    | ⟨1, _⟩ => show 0 + 1 * t.val = t.val; omega
  have hq : x0 ((qRect i b g).emb (Shape.Idx.first (s := S1x1) (by decide)))
      = x0 (ix2 ⟨4 * (i 1).val + (rowOf b r).val / 128, by omega⟩ g) := by
    congr 1
    funext a
    apply Fin.ext
    match a with
    | ⟨0, _⟩ =>
      show (Scalar.indexCast (Scalar.addi (Scalar.muli (BitVec.ofNat 32 (i 1).val) 4#32) (BitVec.ofNat 32 b.val))).toNat + 1 * 0
        = 4 * (i 1).val + (128 * b.val + r.val) / 128
      rw [qOff_row (i 1) b]; omega
    | ⟨1, _⟩ => show g.val + 1 * 0 = g.val; omega
  show (∑ k : Fin 128, (View.ld x2 (wRect i g) (ix2 (rowOf b r) k) * View.ld xc (gRect g) (ix2 t k) : EReal))
      * (View.ld xs (sRect g) (ix2 (0 : Fin 1) t) * x0 ((qRect i b g).emb (Shape.Idx.first (s := S1x1) (by decide)))) = _
  rw [hs, hq]
  refine congrArg (fun z : EReal => z * _) (Finset.sum_congr rfl fun c _ => ?_)
  rw [hw, ld_gRect]

end Cert.KernelIdeal.Hand

end
-- ==== Proof.KValue.lean ====
/- The kernel's results after the run, over the extended reals, as functions of the argument arrays. -/
module

public import proofs.«01_k».proof.Proof.Body
public import proofs.«01_k».proof.Proof.KAcc

@[expose] public section

set_option maxRecDepth 16384

noncomputable section

namespace Cert.KernelIdeal.Hand

open Cert.KernelIdeal.Gen Cert.Scale
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The activation of token `t` at place `k`, the batch and the sequence read as one axis. -/
def xAt (a0 : Vec Ideal S4x3072x4096 .bf16) (t : Fin 12288) (k : Fin 4096) : EReal :=
  a0 (ix3 ⟨t.val / 3072, by omega⟩ ⟨t.val % 3072, by omega⟩ k)

/-- The grid's column of a point. -/
theorem coords1 : ∀ t : Fin cfg0.N, ((grid0.coords t) 1).val = t.val % 9 := by decide +kernel

/-- The weight scales' block never moves. -/
theorem index0 : ∀ t : Fin cfg0.N, (cfg0.win 0).index t = ![0, 0] := by decide +kernel

/-- The weights' block never moves. -/
theorem index2 : ∀ t : Fin cfg0.N, (cfg0.win 2).index t = ![0, 0] := by decide +kernel

/-- The bias's block of a point: its column's. -/
theorem index3 : ∀ t : Fin cfg0.N, (cfg0.win 3).index t = ![0, t.val % 9] := by decide +kernel

/-- The result's block of a point: its row's and its column's. -/
theorem index4 : ∀ t : Fin cfg0.N, (cfg0.win 4).index t = ![t.val / 9, t.val % 9] := by decide +kernel

/-- The codes' block of a point: its row's. -/
theorem index5 : ∀ t : Fin cfg0.N, (cfg0.win 5).index t = ![t.val / 9, 0] := by decide +kernel

/-- The scales' block of a point: its row's. -/
theorem index6 : ∀ t : Fin cfg0.N, (cfg0.win 6).index t = ![t.val / 9, 0] := by decide +kernel

/-- The grid has 216 points. -/
theorem lt216 (t : Fin cfg0.N) : t.val < 216 := Nat.lt_of_lt_of_eq t.isLt N_0

/-- The token of row `p` of the block of point `t`. -/
def tok (t : Fin cfg0.N) (p : Fin 512) : Fin 12288 := ⟨512 * (t.val / 9) + p.val, by have := lt216 t; omega⟩

/-- The output column of column `n` of the block of point `t`. -/
def col (t : Fin cfg0.N) (n : Fin 512) : Fin 4608 := ⟨512 * (t.val % 9) + n.val, by omega⟩

/-- The block of activations of a point, at an index. -/
theorem iblk1_at (c : Dev nD) (t : Fin cfg0.N) (p : Fin 512) (k : Fin 4096) :
    iblk m c 1 t (ix2 p k) = xAt (m ((c.tc : Thread nD τ).loc main_arg0)) (tok t p) k := by
  have he : ((cfg0.win 1).rect t).emb (ix2 p k) = ix2 (tok t p) k := by
    funext a
    apply Fin.ext
    refine (Pipeline.Window.rect_emb_val win0_1 t (ix2 p k) a rfl).trans ?_
    rw [show win0_1.index t a = (![t.val / 9, 0] : Fin 2 → ℕ) a from congrFun (index1 t) a]
    match a with
    | ⟨0, _⟩ => show t.val / 9 * 512 + p.val = 512 * (t.val / 9) + p.val; omega
    | ⟨1, _⟩ => show 0 * 4096 + k.val = k.val; omega
  show V m c main_v0 (((cfg0.win 1).rect t).emb (ix2 p k)) = _
  rw [he]
  entry_read
  pointwise
  rfl

/-- The bias's block of a point, at an index. -/
theorem iblk3_at (c : Dev nD) (t : Fin cfg0.N) (n : Fin 512) :
    iblk m c 3 t (ix2 (0 : Fin 1) n) = m ((c.tc : Thread nD τ).loc main_arg3) (ix1 (col t n)) := by
  have he : ((cfg0.win 3).rect t).emb (ix2 (0 : Fin 1) n) = ix2 (0 : Fin 1) (col t n) := by
    funext a
    apply Fin.ext
    refine (Pipeline.Window.rect_emb_val win0_3 t (ix2 (0 : Fin 1) n) a rfl).trans ?_
    rw [show win0_3.index t a = (![0, t.val % 9] : Fin 2 → ℕ) a from congrFun (index3 t) a]
    match a with
    | ⟨0, _⟩ => rfl
    | ⟨1, _⟩ => show t.val % 9 * 512 + n.val = 512 * (t.val % 9) + n.val; omega
  show V m c main_v1 (((cfg0.win 3).rect t).emb (ix2 (0 : Fin 1) n)) = _
  rw [he]
  entry_read
  pointwise

/-- The weights' block of a point is the weights. -/
theorem iblk2_at (c : Dev nD) (t : Fin cfg0.N) (y : S4608x4096.Idx) :
    iblk m c 2 t y = m ((c.tc : Thread nD τ).loc main_arg1) y := by
  have he : ((cfg0.win 2).rect t).emb y = y := by
    funext a
    apply Fin.ext
    refine (Pipeline.Window.rect_emb_val win0_2 t y a rfl).trans ?_
    rw [show win0_2.index t a = (![0, 0] : Fin 2 → ℕ) a from congrFun (index2 t) a]
    match a with
    | ⟨0, _⟩ => show 0 * 4608 + (y 0).val = (y 0).val; omega
    | ⟨1, _⟩ => show 0 * 4096 + (y 1).val = (y 1).val; omega
  show V m c main_arg1 (((cfg0.win 2).rect t).emb y) = _
  rw [he, V_main_arg1]

/-- The weight scales' block of a point is the weight scales. -/
theorem iblk0_at (c : Dev nD) (t : Fin cfg0.N) (y : S36x32.Idx) :
    iblk m c 0 t y = m ((c.tc : Thread nD τ).loc main_arg2) y := by
  have he : ((cfg0.win 0).rect t).emb y = y := by
    funext a
    apply Fin.ext
    refine (Pipeline.Window.rect_emb_val win0_0 t y a rfl).trans ?_
    rw [show win0_0.index t a = (![0, 0] : Fin 2 → ℕ) a from congrFun (index0 t) a]
    match a with
    | ⟨0, _⟩ => show 0 * 36 + (y 0).val = (y 0).val; omega
    | ⟨1, _⟩ => show 0 * 32 + (y 1).val = (y 1).val; omega
  show V m c main_arg2 (((cfg0.win 0).rect t).emb y) = _
  rw [he, V_main_arg2]

/-! ## The arrays after the run -/

/-- The kernel's codes, as a function of the activations. -/
def K5 (a0 : Vec Ideal S4x3072x4096 .bf16) : Vec Ideal S12288x4096 .fp8e4m3 := fun y =>
  clip (xAt a0 (y 0) (y 1) * invBy (vAt (xAt a0 (y 0)) (grp (y 1))))

/-- The kernel's scales, as a function of the activations. -/
def K6 (a0 : Vec Ideal S4x3072x4096 .bf16) : Vec Ideal S12288x32 .f32 := fun y =>
  scaleBy (vAt (xAt a0 (y 0)) (y 1))

/-- The kernel's result, as a function of the arguments. -/
def K4 (a0 : Vec Ideal S4x3072x4096 .bf16) (a1 : Vec Ideal S4608x4096 .fp8e4m3) (a2 : Vec Ideal S36x32 .f32)
    (a3 : Vec Ideal S4608 .f32) : Vec Ideal S12288x4608 .bf16 := fun y =>
  ((∑ g : Fin 32, (∑ c : Fin 128, (a1 (ix2 (y 1) (at128 g c)) * K5 a0 (ix2 (y 0) (at128 g c)) : EReal))
      * (K6 a0 (ix2 (y 0) g) * a2 (ix2 ⟨(y 1).val / 128, by have : (y 1).val < 4608 := (y 1).isLt; omega⟩ g))) + a3 (ix1 (y 1)) : EReal)

/-- Where an index of a point's block lies in the codes' array. -/
theorem emb5 (t : Fin cfg0.N) (p : Fin 512) (k : Fin 4096) : ((cfg0.win 5).rect t).emb (ix2 p k) = ix2 (tok t p) k := by
  funext a
  apply Fin.ext
  refine (Pipeline.Window.rect_emb_val win0_5 t (ix2 p k) a rfl).trans ?_
  rw [show win0_5.index t a = (![t.val / 9, 0] : Fin 2 → ℕ) a from congrFun (index5 t) a]
  match a with
  | ⟨0, _⟩ => show t.val / 9 * 512 + p.val = 512 * (t.val / 9) + p.val; omega
  | ⟨1, _⟩ => show 0 * 4096 + k.val = k.val; omega

/-- Where an index of a point's block lies in the scales' array. -/
theorem emb6 (t : Fin cfg0.N) (p : Fin 512) (g : Fin 32) : ((cfg0.win 6).rect t).emb (ix2 p g) = ix2 (tok t p) g := by
  funext a
  apply Fin.ext
  refine (Pipeline.Window.rect_emb_val win0_6 t (ix2 p g) a rfl).trans ?_
  rw [show win0_6.index t a = (![t.val / 9, 0] : Fin 2 → ℕ) a from congrFun (index6 t) a]
  match a with
  | ⟨0, _⟩ => show t.val / 9 * 512 + p.val = 512 * (t.val / 9) + p.val; omega
  | ⟨1, _⟩ => show 0 * 32 + g.val = g.val; omega

/-- Where an index of a point's block lies in the result's array. -/
theorem emb4 (t : Fin cfg0.N) (p n : Fin 512) : ((cfg0.win 4).rect t).emb (ix2 p n) = ix2 (tok t p) (col t n) := by
  funext a
  apply Fin.ext
  refine (Pipeline.Window.rect_emb_val win0_4 t (ix2 p n) a rfl).trans ?_
  rw [show win0_4.index t a = (![t.val / 9, t.val % 9] : Fin 2 → ℕ) a from congrFun (index4 t) a]
  match a with
  | ⟨0, _⟩ => show t.val / 9 * 512 + p.val = 512 * (t.val / 9) + p.val; omega
  | ⟨1, _⟩ => show t.val % 9 * 512 + n.val = 512 * (t.val % 9) + n.val; omega

/-- A row of a point's block of activations is the token's row. -/
theorem row_eq (c : Dev nD) (t : Fin cfg0.N) (p : Fin 512) :
    (fun k : Fin 4096 => (iblk m c 1 t (ix2 p k) : EReal)) = xAt (m ((c.tc : Thread nD τ).loc main_arg0)) (tok t p) :=
  funext fun k => iblk1_at m c t p k

/-- A point's codes, at an index. -/
theorem codes_point (c : Dev nD) (t : Fin cfg0.N) (p : Fin 512) (k : Fin 4096) :
    codesOf (iblk m c 1 t) (ix2 p k) = K5 (m ((c.tc : Thread nD τ).loc main_arg0)) (ix2 (tok t p) k) := by
  refine (codesOf_at (iblk m c 1 t) p k).trans ?_
  rw [row_eq, iblk1_at]
  rfl

/-- A point's scales, at an index. -/
theorem scales_point (c : Dev nD) (t : Fin cfg0.N) (p : Fin 512) (g : Fin 32) :
    scalesOf (iblk m c 1 t) (ix2 p g) = K6 (m ((c.tc : Thread nD τ).loc main_arg0)) (ix2 (tok t p) g) := by
  refine (scalesOf_at (iblk m c 1 t) p g).trans ?_
  rw [row_eq]
  rfl

/-- A point's turned scales, at an index. -/
theorem turned_point (c : Dev nD) (t : Fin cfg0.N) (p : Fin 512) (g : Fin 32) :
    turnedOf (iblk m c 1 t) (ix2 g p) = K6 (m ((c.tc : Thread nD τ).loc main_arg0)) (ix2 (tok t p) g) := by
  refine (turnedOf_at (iblk m c 1 t) p g).trans ?_
  rw [row_eq]
  rfl

/-- A point's block of the result, at an index. -/
theorem res_point (c : Dev nD) (t : Fin cfg0.N) (p n : Fin 512) :
    resOf scM0_1.view (grid0.coords t) (iblk m c 0 t) (iblk m c 2 t) (iblk m c 3 t) (codesOf (iblk m c 1 t)) (turnedOf (iblk m c 1 t))
        (ix2 p n)
      = K4 (m ((c.tc : Thread nD τ).loc main_arg0)) (m ((c.tc : Thread nD τ).loc main_arg1)) (m ((c.tc : Thread nD τ).loc main_arg2))
          (m ((c.tc : Thread nD τ).loc main_arg3)) (ix2 (tok t p) (col t n)) := by
  refine (resOf_at _ _ _ _ _ _ _ p n).trans ?_
  have hc := coords1 t
  have e1 : ∀ h, (⟨512 * ((grid0.coords t) 1).val + n.val, h⟩ : Fin 4608) = col t n := fun h =>
    Fin.ext (by show 512 * ((grid0.coords t) 1).val + n.val = 512 * (t.val % 9) + n.val; rw [hc])
  have e2 : ∀ h h', (⟨4 * ((grid0.coords t) 1).val + n.val / 128, h⟩ : Fin 36) = ⟨(col t n).val / 128, h'⟩ := fun h h' =>
    Fin.ext (by show 4 * ((grid0.coords t) 1).val + n.val / 128 = (512 * (t.val % 9) + n.val) / 128; rw [hc]; omega)
  refine congr (congrArg (fun a b : EReal => a + b) (Finset.sum_congr rfl fun g _ => ?_)) (iblk3_at m c t n)
  refine congr (congrArg (fun a b : EReal => a * b) (Finset.sum_congr rfl fun k _ => ?_)) ?_
  · rw [codes_point, iblk2_at, e1]
    rfl
  · rw [turned_point, iblk0_at, e2 _ (by have := (col t n).isLt; omega)]
    rfl

/-- The codes' array after the run. -/
theorem final5 (c : Dev nD) : (dats m 0 c).arrAt 5 cfg0.N = K5 (m ((c.tc : Thread nD τ).loc main_arg0)) := by
  refine (dats m 0 c).arrAt_eq_of_covers 5 (K5 (m ((c.tc : Thread nD τ).loc main_arg0))) (by decide +kernel) fun t _ y => ?_
  obtain ⟨p, k, rfl⟩ : ∃ (p : Fin 512) (k : Fin 4096), y = ix2 p k := ⟨y 0, y 1, eq_ix2 y⟩
  rw [after0_5]
  show codesOf (iblk m c 1 t) (ix2 p k) = K5 _ (((cfg0.win 5).rect t).emb (ix2 p k))
  rw [emb5, codes_point]

/-- The scales' array after the run. -/
theorem final6 (c : Dev nD) : (dats m 0 c).arrAt 6 cfg0.N = K6 (m ((c.tc : Thread nD τ).loc main_arg0)) := by
  refine (dats m 0 c).arrAt_eq_of_covers 6 (K6 (m ((c.tc : Thread nD τ).loc main_arg0))) (by decide +kernel) fun t _ y => ?_
  obtain ⟨p, k, rfl⟩ : ∃ (p : Fin 512) (k : Fin 32), y = ix2 p k := ⟨y 0, y 1, eq_ix2 y⟩
  rw [after0_6]
  show scalesOf (iblk m c 1 t) (ix2 p k) = K6 _ (((cfg0.win 6).rect t).emb (ix2 p k))
  rw [emb6, scales_point]

/-- The result's array after the run. -/
theorem final4 (c : Dev nD) : (dats m 0 c).arrAt 4 cfg0.N
    = K4 (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 4 (K4 (m ((c.tc : Thread nD τ).loc main_arg0)) (m ((c.tc : Thread nD τ).loc main_arg1))
    (m ((c.tc : Thread nD τ).loc main_arg2)) (m ((c.tc : Thread nD τ).loc main_arg3))) (by decide +kernel) fun t _ y => ?_
  obtain ⟨p, n, rfl⟩ : ∃ p n : Fin 512, y = ix2 p n := ⟨y 0, y 1, eq_ix2 y⟩
  rw [after0_4]
  show resOf scM0_1.view (grid0.coords t) (iblk m c 0 t) (iblk m c 2 t) (iblk m c 3 t) (codesOf (iblk m c 1 t)) (turnedOf (iblk m c 1 t))
        (ix2 p n) = K4 _ _ _ _ (((cfg0.win 4).rect t).emb (ix2 p n))
  rw [emb4, res_point]

/-- The kernel's run: each result at its function of the arguments, the arguments unchanged. -/
theorem run : θ_run defs (onTc (τ := τ) (main (F := Ideal))) ⟨m, fun _ => 0, ρ⟩ fun r => ∀ c : Dev nD,
      r.2.mem ((c.tc : Thread nD τ).loc main_v2_0)
        = K4 (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_v2_1) = K5 (m ((c.tc : Thread nD τ).loc main_arg0))
      ∧ r.2.mem ((c.tc : Thread nD τ).loc main_v2_2) = K6 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1.out_eq c 4).trans (final4 m c), (h.1.out_eq c 5).trans (final5 m c),
    (h.1.out_eq c 6).trans (final6 m c), h.2 c⟩)
    (θ_run_and (run_main m ρ) (unchanged m ρ))

end Cert.KernelIdeal.Hand

end
-- ==== Proof.RSide.lean ====
/- The reference's results read at an index, over the extended reals. -/
module

public import proofs.«01_k».proof.Proof.Gen.ReferenceIdeal.Value
public import proofs.«01_k».proof.Proof.Spec
public import Idealize.ShloMosaic.Lib.Pointwise

@[expose] public section

set_option maxRecDepth 16384

noncomputable section

namespace Cert.ReferenceIdeal.Hand

open Cert.ReferenceIdeal.Gen Cert.Scale
open Idealize.ShloMosaic Idealize.ShloMosaic.TcCoe

/-- The activation of token `t` at place `k`, the batch and the sequence read as one axis. -/
def xAt (a0 : Vec Ideal S4x3072x4096 .bf16) (t : Fin 12288) (k : Fin 4096) : EReal :=
  a0 (ix3 ⟨t.val / 3072, by omega⟩ ⟨t.val % 3072, by omega⟩ k)

/-- The activations by groups, at an index. -/
theorem pay3_at (a0 : Vec Ideal S4x3072x4096 .bf16) (t : Fin 12288) (g : Fin 32) (c : Fin 128) :
    k0_pay3 a0 (ix3 t g c) = xAt a0 t (at128 g c) := by
  pointwise [k0_pay3]
  unfold xAt at128
  simp only [Nat.mul_comm]

/-- A column broadcast along the last axis, at an index. -/
theorem col128_at (u : FVec Ideal S12288x32 .f32) (t : Fin 12288) (g : Fin 32) (c : Fin 128) :
    broadcastTo S12288x32x128 (shapeCast S12288x32x1 u shapeCasts_S12288x32_S12288x32x1 : FVec Ideal S12288x32x1 .f32)
      broadcasts_S12288x32x1_S12288x32x128 (ix3 t g c) = u (ix2 t g) := by
  pointwise

/-- The same for the 253 powers. -/
theorem col253_at (u : FVec Ideal S12288x32 .f32) (t : Fin 12288) (g : Fin 32) (c : Fin 253) :
    broadcastTo S12288x32x253 (shapeCast S12288x32x1 u shapeCasts_S12288x32_S12288x32x1 : FVec Ideal S12288x32x1 .f32)
      broadcasts_S12288x32x1_S12288x32x253 (ix3 t g c) = u (ix2 t g) := by
  pointwise

/-- The maximum over a group, at an index. -/
theorem max128_at (u : FVec Ideal S12288x32x128 .f32) (t : Fin 12288) (g : Fin 32) :
    multiReduction .maximumf [2] S12288x32 u 0xFF800000#32 reduces_S12288x32x128_S12288x32 (.inl rfl) rfl (ix2 t g)
      = (Finset.univ : Finset (Fin 128)).fold max (Ideal.ofBits .f32 0xFF800000#32) (fun c => (u (ix3 t g c) : EReal)) := by
  pointwise

/-- The minimum over the powers, at an index. -/
theorem min253_at (u : FVec Ideal S12288x32x253 .f32) (t : Fin 12288) (g : Fin 32) :
    multiReduction .minimumf [2] S12288x32 u 0x7F800000#32 reduces_S12288x32x253_S12288x32 (.inl rfl) rfl (ix2 t g)
      = (Finset.univ : Finset (Fin 253)).fold min (Ideal.ofBits .f32 0x7F800000#32) (fun c => (u (ix3 t g c) : EReal)) := by
  pointwise

/-! ## Pointwise operations at an index, over variables -/

section Ops

variable {s : Shape}

/-- A product of vectors at an index. -/
theorem mulOp_at (a b : FVec Ideal s .f32) (j : s.Idx) : mulf a b j = (a j * b j : EReal) := rfl

/-- An absolute value of a vector at an index. -/
theorem absOp_at (a : FVec Ideal s .f32) (j : s.Idx) : absf a j = (max (a j) (-(a j)) : EReal) := rfl

/-- A constant vector at an index. -/
theorem splat_at (w : BitVec 32) (j : s.Idx) :
    (broadcast s (Scalar.ofBits .f32 w) : FVec Ideal s .f32) j = Ideal.ofBits .f32 w := rfl

/-- The powers above a value, infinity in place of the others, at an index. -/
theorem aboveOp_at (p v : FVec Ideal s .f32) (w : BitVec 32) (j : s.Idx) :
    select (cmpf .ogt p v) p (broadcast s (Scalar.ofBits .f32 w)) j
      = Scalar.select (Ideal.cmp .ogt (p j) (v j)) (p j) (Ideal.ofBits .f32 w) := rfl

/-- The choice of a constant where a vector is another constant, at an index. -/
theorem zeroOp_at (a m : FVec Ideal s .f32) (w w' : BitVec 32) (j : s.Idx) :
    select (cmpf .oeq a (broadcast s (Scalar.ofBits .f32 w))) (broadcast s (Scalar.ofBits .f32 w')) m j
      = Scalar.select (Ideal.cmp .oeq (a j) (Ideal.ofBits .f32 w)) (Ideal.ofBits .f32 w') (m j) := rfl

/-- A constant divided by a vector, at an index. -/
theorem divOp_at (w : BitVec 32) (v : FVec Ideal s .f32) (j : s.Idx) :
    divf (broadcast s (Scalar.ofBits .f32 w)) v j = Ideal.div (Ideal.ofBits .f32 w) (v j) := rfl

/-- A power with an integer exponent, at an index. -/
theorem powOp_at (k : IVec s 32) (w : BitVec 32) (j : s.Idx) :
    exp2 (subf (sitofp .f32 k : FVec Ideal s .f32) (broadcast s (Scalar.ofBits .f32 w))) j
      = Ideal.exp2 ((((k j).toInt : ℝ) : EReal) - Ideal.ofBits .f32 w) := rfl

/-- A clipped product at an index. -/
theorem clipOp_at (x y : FVec Ideal s .f32) (j : s.Idx) :
    truncf .fp8e4m3 (minimumf (broadcast s (Scalar.ofBits .f32 0x43E00000#32))
      (maximumf (broadcast s (Scalar.ofBits .f32 0xC3E00000#32)) (mulf x y))) bitsLt_fp8e4m3_f32 j
      = clip (x j * y j) := rfl

end Ops

/-- The absolute maxima. -/
def aVec (a0 : Vec Ideal S4x3072x4096 .bf16) : FVec Ideal S12288x32 .f32 :=
  multiReduction .maximumf [2] S12288x32 (absf (k0_pay3 a0)) 0xFF800000#32 reduces_S12288x32x128_S12288x32 (.inl rfl) rfl

/-- The absolute maxima, at an index. -/
theorem aVec_at (a0 : Vec Ideal S4x3072x4096 .bf16) (t : Fin 12288) (g : Fin 32) : aVec a0 (ix2 t g) = amaxAt (xAt a0 t) g := by
  unfold aVec
  rw [max128_at]
  simp only [absOp_at, pay3_at]
  rfl

/-- The scaled maxima. -/
def vVec (a0 : Vec Ideal S4x3072x4096 .bf16) : FVec Ideal S12288x32 .f32 :=
  mulf (aVec a0) (broadcast S12288x32 (Scalar.ofBits .f32 0x3B124925#32))

/-- The scaled maxima, at an index. -/
theorem vVec_at (a0 : Vec Ideal S4x3072x4096 .bf16) (t : Fin 12288) (g : Fin 32) : vVec a0 (ix2 t g) = vAt (xAt a0 t) g := by
  unfold vVec
  rw [mulOp_at, aVec_at, splat_at]
  rfl

/-- The powers of two, `2 ^ -125` first. -/
def powVec : FVec Ideal S12288x32x253 .f32 :=
  exp2 (subf (sitofp .f32 (iota .tc S12288x32x253 32 [2] iota_S12288x32x253_d2_w32))
    (broadcast S12288x32x253 (Scalar.ofBits .f32 0x42FA0000#32)))

/-- The powers, at an index. -/
theorem powVec_at (t : Fin 12288) (g : Fin 32) (k : Fin 253) :
    powVec (ix3 t g k) = (Ideal.exp2 ((((BitVec.ofNat 32 k.val).toInt : ℝ) : EReal) - Ideal.ofBits .f32 0x42FA0000#32) : EReal) := by
  have h : iota .tc S12288x32x253 32 [2] iota_S12288x32x253_d2_w32 (ix3 t g k) = BitVec.ofNat 32 k.val := by
    pointwise
  unfold powVec
  rw [powOp_at, h]

/-- The powers above the scaled maximum, infinity elsewhere. -/
def aboveVec (a0 : Vec Ideal S4x3072x4096 .bf16) : FVec Ideal S12288x32x253 .f32 :=
  select (cmpf .ogt powVec (broadcastTo S12288x32x253
      (shapeCast S12288x32x1 (vVec a0) shapeCasts_S12288x32_S12288x32x1 : FVec Ideal S12288x32x1 .f32)
      broadcasts_S12288x32x1_S12288x32x253)) powVec (broadcast S12288x32x253 (Scalar.ofBits .f32 0x7F800000#32))

/-- The powers above, at an index. -/
theorem aboveVec_at (a0 : Vec Ideal S4x3072x4096 .bf16) (t : Fin 12288) (g : Fin 32) (k : Fin 253) :
    aboveVec a0 (ix3 t g k) = Scalar.select
      (Ideal.cmp .ogt (Ideal.exp2 ((((BitVec.ofNat 32 k.val).toInt : ℝ) : EReal) - Ideal.ofBits .f32 0x42FA0000#32)) (vAt (xAt a0 t) g))
      (Ideal.exp2 ((((BitVec.ofNat 32 k.val).toInt : ℝ) : EReal) - Ideal.ofBits .f32 0x42FA0000#32))
      (Ideal.ofBits .f32 0x7F800000#32) := by
  unfold aboveVec
  rw [aboveOp_at, col253_at, vVec_at, powVec_at]

/-- The scales, as these vectors. -/
theorem pay4_eq (a0 : Vec Ideal S4x3072x4096 .bf16) : k0_pay4 a0
    = select (cmpf .oeq (aVec a0) (broadcast S12288x32 (Scalar.ofBits .f32 0x00000000#32)))
        (broadcast S12288x32 (Scalar.ofBits .f32 0x3F800000#32))
        (multiReduction .minimumf [2] S12288x32 (aboveVec a0) 0x7F800000#32 reduces_S12288x32x253_S12288x32 (.inl rfl) rfl) := rfl

/-- The scales, at an index. -/
theorem pay4_at (a0 : Vec Ideal S4x3072x4096 .bf16) (t : Fin 12288) (g : Fin 32) :
    k0_pay4 a0 (ix2 t g) = scaleRef (amaxAt (xAt a0 t) g) (vAt (xAt a0 t) g) := by
  rw [pay4_eq, zeroOp_at, aVec_at, min253_at]
  simp only [aboveVec_at]
  rfl

/-- The codes by groups, as these vectors. -/
theorem pay5_eq (a0 : Vec Ideal S4x3072x4096 .bf16) : k0_pay5 a0
    = truncf .fp8e4m3 (minimumf (broadcast S12288x32x128 (Scalar.ofBits .f32 0x43E00000#32))
        (maximumf (broadcast S12288x32x128 (Scalar.ofBits .f32 0xC3E00000#32)) (mulf (k0_pay3 a0)
          (broadcastTo S12288x32x128 (shapeCast S12288x32x1
            (divf (broadcast S12288x32 (Scalar.ofBits .f32 0x3F800000#32)) (k0_pay4 a0)) shapeCasts_S12288x32_S12288x32x1
              : FVec Ideal S12288x32x1 .f32) broadcasts_S12288x32x1_S12288x32x128)))) bitsLt_fp8e4m3_f32 := rfl

/-- The codes by groups, at an index. -/
theorem pay5_at (a0 : Vec Ideal S4x3072x4096 .bf16) (t : Fin 12288) (g : Fin 32) (c : Fin 128) :
    k0_pay5 a0 (ix3 t g c) = clip (xAt a0 t (at128 g c) * Ideal.div 1 (scaleRef (amaxAt (xAt a0 t) g) (vAt (xAt a0 t) g))) := by
  rw [pay5_eq, clipOp_at, pay3_at, col128_at, divOp_at, pay4_at, one]

/-- The codes by rows, at an index. -/
theorem pay2_at (z : FVec Ideal S12288x32x128 .fp8e4m3) (t : Fin 12288) (k : Fin 4096) :
    k0_pay2 z (ix2 t k) = z (ix3 t (grp k) (inGrp k)) := by
  pointwise [k0_pay2]
  rfl

/-- The groups' products, at an index. -/
theorem pay6_at (a0 : Vec Ideal S4x3072x4096 .bf16) (w : Vec Ideal S4608x4096 .fp8e4m3) (g : Fin 32) (t : Fin 12288) (n : Fin 4608) :
    k0_pay6 a0 w (ix3 g t n) = ∑ c : Fin 128, (k0_pay5 a0 (ix3 t g c) * w (ix2 n (at128 g c)) : EReal) := by
  pointwise [k0_pay6]
  unfold at128
  simp only [Nat.mul_comm]

/-- The weights' scales by rows, at an index. -/
theorem pay7_at (ws : Vec Ideal S36x32 .f32) (g : Fin 32) (n : Fin 4608) :
    k0_pay7 ws (ix2 g n) = ws (ix2 ⟨n.val / 128, by omega⟩ g) := by
  pointwise [k0_pay7]

/-- The tokens' scales, at an index. -/
theorem pay8_at (a0 : Vec Ideal S4x3072x4096 .bf16) (g : Fin 32) (t : Fin 12288) (z : Fin 1) :
    k0_pay8 a0 (ix3 g t z) = k0_pay4 a0 (ix2 t g) := by
  pointwise [k0_pay8]

/-- The result, at an index. -/
theorem pay1_at (acc : FVec Ideal S32x12288x4608 .f32) (ws : FVec Ideal S32x4608 .f32) (sx : FVec Ideal S32x12288x1 .f32)
    (bias : Vec Ideal S4608 .f32) (t : Fin 12288) (n : Fin 4608) :
    k0_pay1 acc ws sx bias (ix2 t n)
      = ((∑ g : Fin 32, (acc (ix3 g t n) * sx (ix3 g t (0 : Fin 1)) * ws (ix2 g n) : EReal)) + bias (ix1 n) : EReal) := by
  pointwise [k0_pay1]

end Cert.ReferenceIdeal.Hand

end
-- ==== Proof.Equal.lean ====
/- The kernel's results and the reference's are equal at normal activations. -/
module

public import proofs.«01_k».proof.Proof.KValue
public import proofs.«01_k».proof.Proof.RSide

@[expose] public section

set_option maxRecDepth 16384

noncomputable section

namespace Cert.Equal

open Idealize.ShloMosaic Cert.Scale
open Cert.KernelIdeal (S4x3072x4096 S4608x4096 S36x32 S4608 S12288x4608 S12288x4096 S12288x32)
open Cert.KernelIdeal.Hand (K4 K5 K6 xAt)

/-- Every group's absolute maximum is finite, and zero or large enough. -/
def AllNormal (a0 : Vec Ideal S4x3072x4096 .bf16) : Prop := ∀ (t : Fin 12288) (g : Fin 32), Normal (amaxAt (xAt a0 t) g)

/-- One term of the result: the kernel's product of a group's weights, codes and scales is the reference's, the factors in
another order. -/
theorem term_eq (w q : Fin 128 → EReal) (s z : EReal) :
    (∑ c : Fin 128, q c * w c) * s * z = (∑ c : Fin 128, w c * q c) * (s * z) := by
  rw [mul_assoc]
  exact congrArg (· * (s * z)) (Finset.sum_congr rfl fun c _ => mul_comm _ _)

variable {a0 : Vec Ideal S4x3072x4096 .bf16} (h0 : AllNormal a0)
include h0

/-- At normal activations the kernel's scale is the reference's. -/
theorem scale_eq (t : Fin 12288) (g : Fin 32) :
    scaleBy (vAt (xAt a0 t) g) = scaleRef (amaxAt (xAt a0 t) g) (vAt (xAt a0 t) g) := by
  obtain ⟨r, e, hr, ha⟩ := (h0 t g).real
  rw [show vAt (xAt a0 t) g = (r : EReal) from e]
  exact scaleBy_eq hr ha

/-- At normal activations the kernel's inverse scale is one over the reference's scale. -/
theorem inv_eq (t : Fin 12288) (g : Fin 32) :
    invBy (vAt (xAt a0 t) g) = Ideal.div 1 (scaleRef (amaxAt (xAt a0 t) g) (vAt (xAt a0 t) g)) := by
  obtain ⟨r, e, hr, ha⟩ := (h0 t g).real
  rw [show vAt (xAt a0 t) g = (r : EReal) from e]
  exact invBy_eq hr ha

/-- The scales at an index: the kernel's are the reference's. -/
theorem scales_at (t : Fin 12288) (g : Fin 32) :
    K6 a0 (ix2 t g) = Cert.ReferenceIdeal.Gen.k0_pay4 a0 (ix2 t g) :=
  (scale_eq h0 t g).trans (Cert.ReferenceIdeal.Hand.pay4_at a0 t g).symm

/-- The codes at an index of a group: the kernel's are the reference's. -/
theorem codes_at (t : Fin 12288) (g : Fin 32) (c : Fin 128) :
    K5 a0 (ix2 t (at128 g c)) = Cert.ReferenceIdeal.Gen.k0_pay5 a0 (ix3 t g c) := by
  rw [Cert.ReferenceIdeal.Hand.pay5_at]
  show clip (xAt a0 t (at128 g c) * invBy (vAt (xAt a0 t) (grp (at128 g c)))) = _
  rw [grp_at128, inv_eq h0]
  rfl

/-- The scales: the kernel's are the reference's. -/
theorem scales : Cert.ReferenceIdeal.Gen.k0_pay4 a0 = K6 a0 := by
  funext y
  obtain ⟨t, g, rfl⟩ : ∃ (t : Fin 12288) (g : Fin 32), y = ix2 t g := ⟨y 0, y 1, eq_ix2 y⟩
  exact (scales_at h0 t g).symm

/-- The codes: the kernel's are the reference's. -/
theorem codes : Cert.ReferenceIdeal.Gen.k0_pay2 (Cert.ReferenceIdeal.Gen.k0_pay5 a0) = K5 a0 := by
  funext y
  obtain ⟨t, k, rfl⟩ : ∃ (t : Fin 12288) (k : Fin 4096), y = ix2 t k := ⟨y 0, y 1, eq_ix2 y⟩
  refine (Cert.ReferenceIdeal.Hand.pay2_at (Cert.ReferenceIdeal.Gen.k0_pay5 a0) t k).trans ?_
  rw [← codes_at h0, at128_grp]

/-- The result: the kernel's is the reference's. -/
theorem result (a1 : Vec Ideal S4608x4096 .fp8e4m3) (a2 : Vec Ideal S36x32 .f32) (a3 : Vec Ideal S4608 .f32) :
    Cert.ReferenceIdeal.Value.G4 a0 a1 a2 a3 = K4 a0 a1 a2 a3 := by
  funext y
  obtain ⟨t, n, rfl⟩ : ∃ (t : Fin 12288) (n : Fin 4608), y = ix2 t n := ⟨y 0, y 1, eq_ix2 y⟩
  refine (Cert.ReferenceIdeal.Hand.pay1_at (Cert.ReferenceIdeal.Gen.k0_pay6 a0 a1) (Cert.ReferenceIdeal.Gen.k0_pay7 a2)
    (Cert.ReferenceIdeal.Gen.k0_pay8 a0) a3 t n).trans ?_
  refine congrArg (fun s : EReal => s + (a3 (ix1 n) : EReal)) (Finset.sum_congr rfl fun g _ => ?_)
  rw [Cert.ReferenceIdeal.Hand.pay6_at, Cert.ReferenceIdeal.Hand.pay7_at, Cert.ReferenceIdeal.Hand.pay8_at, ← scales_at h0]
  simp only [← codes_at h0]
  exact term_eq (fun c => a1 (ix2 n (at128 g c))) (fun c => K5 a0 (ix2 t (at128 g c))) _ _

end Cert.Equal

end
-- ==== Proof.lean ====
module

public import proofs.«01_k».proof.Defs
public import proofs.«01_k».proof.Proof.Printed
public import proofs.«01_k».proof.Proof.Gen.KernelIdeal.Frame
public import proofs.«01_k».proof.Proof.Gen.KernelIdeal.Skeleton
public import proofs.«01_k».proof.Proof.Gen.ReferenceIdeal.Frame
public import proofs.«01_k».proof.Proof.Gen.ReferenceIdeal.Value
public import proofs.«01_k».proof.Proof.Normal
public import proofs.«01_k».proof.Proof.Equal

@[expose] public section

open Idealize.ShloMosaic Idealize.ShloMosaic.TcCoe Idealize.SL.Sem

/-- The value claim: from normal activations the kernel's three results are the reference's. -/
theorem Cert.Proof.algebraic : Cert.algebraic_KernelIdeal_ReferenceIdeal_pre_x_is_normal := by
  intro m g m' g' hpre heq
  refine ⟨fun c => Cert.KernelIdeal.Hand.K4 (m (c.tc.loc Cert.KernelIdeal.main_arg0)) (m (c.tc.loc Cert.KernelIdeal.main_arg1))
      (m (c.tc.loc Cert.KernelIdeal.main_arg2)) (m (c.tc.loc Cert.KernelIdeal.main_arg3)),
    fun c => Cert.KernelIdeal.Hand.K5 (m (c.tc.loc Cert.KernelIdeal.main_arg0)),
    fun c => Cert.KernelIdeal.Hand.K6 (m (c.tc.loc Cert.KernelIdeal.main_arg0)),
    Cert.KernelIdeal.Hand.run m g, ?_⟩
  refine (θ_run _ _ _).mono (fun r h c => ?_) (Cert.ReferenceIdeal.Value.run m' g')
  obtain ⟨e0, e1, e2, e3⟩ := heq c
  obtain ⟨r0, r1, r2, u⟩ := h c
  have hf : Cert.Equal.AllNormal (m (c.tc.loc Cert.KernelIdeal.main_arg0)) :=
    fun _ g => Cert.Pre_x_is_normal.Hand.normal_of_fn _ _ _ _ (hpre c) _ _ g
  refine ⟨r0.trans ?_, r1.trans ?_, r2.trans ?_, u⟩
  · rw [e0, e1, e2, e3]
    exact Cert.Equal.result hf _ _ _
  · rw [e0]
    exact Cert.Equal.codes hf
  · rw [e0]
    exact Cert.Equal.scales hf

/-- Every claim of the certificate. -/
theorem Cert.Proof.claim : Cert.Claim :=
  ⟨Cert.Kernel.Gen.facts, Cert.KernelIdeal.Gen.facts, Cert.ReferenceIdeal.Gen.facts, Cert.Pre_x_is_normal.Hand.facts,
    Cert.Kernel.Hand.frame, fun m ρ _ => Cert.KernelIdeal.Hand.frame m ρ,
    fun m ρ _ => Cert.KernelIdeal.Hand.frame m ρ, fun m ρ _ => Cert.ReferenceIdeal.Gen.frame m ρ,
    fun m ρ _ => Cert.ReferenceIdeal.Gen.frame m ρ, trivial, Cert.Proof.algebraic⟩
